-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x6656 : Shape := ⟨3, ![2, 8192, 6656]⟩
abbrev S6656x8192 : Shape := ⟨2, ![6656, 8192]⟩
abbrev S104x16384 : Shape := ⟨2, ![104, 16384]⟩
abbrev S6656x64 : Shape := ⟨2, ![6656, 64]⟩
abbrev S64x16384 : Shape := ⟨2, ![64, 16384]⟩
abbrev S16384x6656 : Shape := ⟨2, ![16384, 6656]⟩
abbrev S16384x3328 : Shape := ⟨2, ![16384, 3328]⟩
abbrev S16384x104 : Shape := ⟨2, ![16384, 104]⟩
abbrev S16384x64 : Shape := ⟨2, ![16384, 64]⟩
abbrev S256x6656 : Shape := ⟨2, ![256, 6656]⟩
abbrev S256x3328 : Shape := ⟨2, ![256, 3328]⟩
abbrev S256x104 : Shape := ⟨2, ![256, 104]⟩
abbrev S256x64 : Shape := ⟨2, ![256, 64]⟩
abbrev S32x128 : Shape := ⟨2, ![32, 128]⟩
abbrev S32 : Shape := ⟨1, ![32]⟩
abbrev S32x1 : Shape := ⟨2, ![32, 1]⟩
abbrev S32x104 : Shape := ⟨2, ![32, 104]⟩
abbrev S8x128 : Shape := ⟨2, ![8, 128]⟩
abbrev S32x128x1 : Shape := ⟨3, ![32, 128, 1]⟩
abbrev S8x128x1 : Shape := ⟨3, ![8, 128, 1]⟩
abbrev S6656x16384 : Shape := ⟨2, ![6656, 16384]⟩
abbrev S6656x256 : Shape := ⟨2, ![6656, 256]⟩
abbrev S104x512 : Shape := ⟨2, ![104, 512]⟩
abbrev S6656x512 : Shape := ⟨2, ![6656, 512]⟩
abbrev S512x128 : Shape := ⟨2, ![512, 128]⟩
abbrev S128x128 : Shape := ⟨2, ![128, 128]⟩
abbrev S8x256 : Shape := ⟨2, ![8, 256]⟩
abbrev S128x128x1 : Shape := ⟨3, ![128, 128, 1]⟩
abbrev S1x128 : Shape := ⟨2, ![1, 128]⟩
abbrev S64x128 : Shape := ⟨2, ![64, 128]⟩
abbrev S16384x16384 : Shape := ⟨2, ![16384, 16384]⟩
abbrev S1024x6656 : Shape := ⟨2, ![1024, 6656]⟩
abbrev S1024x64 : Shape := ⟨2, ![1024, 64]⟩
abbrev S64x512 : Shape := ⟨2, ![64, 512]⟩
abbrev S1024x512 : Shape := ⟨2, ![1024, 512]⟩
abbrev S2x8192x16384 : Shape := ⟨3, ![2, 8192, 16384]⟩
abbrev S2x8192x3328 : Shape := ⟨3, ![2, 8192, 3328]⟩
abbrev S2x8192x104 : Shape := ⟨3, ![2, 8192, 104]⟩

abbrev nBuf : Space → Nat
  | .hbm => 17
  | .vmem => 29
  | .smem => 0
  | _ => 0

abbrev bufTy : (tb : Table) → Fin (tcTables nBuf tb) → BufTy
  | .hbm, ⟨0, _⟩ => ⟨S2x8192x6656, .bf16⟩
  | .hbm, ⟨1, _⟩ => ⟨S6656x8192, .i8⟩
  | .hbm, ⟨2, _⟩ => ⟨S104x16384, .f32⟩
  | .hbm, ⟨3, _⟩ => ⟨S104x16384, .bf16⟩
  | .hbm, ⟨4, _⟩ => ⟨S6656x64, .bf16⟩
  | .hbm, ⟨5, _⟩ => ⟨S64x16384, .bf16⟩
  | .hbm, ⟨6, _⟩ => ⟨S16384x6656, .bf16⟩
  | .hbm, ⟨7, _⟩ => ⟨S16384x6656, .bf16⟩
  | .hbm, ⟨8, _⟩ => ⟨S16384x3328, .i8⟩
  | .hbm, ⟨9, _⟩ => ⟨S16384x104, .f32⟩
  | .hbm, ⟨10, _⟩ => ⟨S16384x64, .bf16⟩
  | .hbm, ⟨11, _⟩ => ⟨S104x16384, .f32⟩
  | .hbm, ⟨12, _⟩ => ⟨S6656x16384, .bf16⟩
  | .hbm, ⟨13, _⟩ => ⟨S16384x16384, .bf16⟩
  | .hbm, ⟨14, _⟩ => ⟨S2x8192x16384, .bf16⟩
  | .hbm, ⟨15, _⟩ => ⟨S2x8192x3328, .i8⟩
  | .hbm, ⟨16, _⟩ => ⟨S2x8192x104, .f32⟩
  | .local _ .vmem, ⟨0, _⟩ => ⟨S256x6656, .bf16⟩
  | .local _ .vmem, ⟨1, _⟩ => ⟨S256x6656, .bf16⟩
  | .local _ .vmem, ⟨2, _⟩ => ⟨S6656x64, .bf16⟩
  | .local _ .vmem, ⟨3, _⟩ => ⟨S256x6656, .bf16⟩
  | .local _ .vmem, ⟨4, _⟩ => ⟨S256x6656, .bf16⟩
  | .local _ .vmem, ⟨5, _⟩ => ⟨S256x3328, .i8⟩
  | .local _ .vmem, ⟨6, _⟩ => ⟨S256x3328, .i8⟩
  | .local _ .vmem, ⟨7, _⟩ => ⟨S256x104, .f32⟩
  | .local _ .vmem, ⟨8, _⟩ => ⟨S256x104, .f32⟩
  | .local _ .vmem, ⟨9, _⟩ => ⟨S256x64, .bf16⟩
  | .local _ .vmem, ⟨10, _⟩ => ⟨S256x64, .bf16⟩
  | .local _ .vmem, ⟨11, _⟩ => ⟨S6656x256, .i8⟩
  | .local _ .vmem, ⟨12, _⟩ => ⟨S6656x256, .i8⟩
  | .local _ .vmem, ⟨13, _⟩ => ⟨S104x512, .f32⟩
  | .local _ .vmem, ⟨14, _⟩ => ⟨S104x512, .f32⟩
  | .local _ .vmem, ⟨15, _⟩ => ⟨S104x512, .f32⟩
  | .local _ .vmem, ⟨16, _⟩ => ⟨S104x512, .f32⟩
  | .local _ .vmem, ⟨17, _⟩ => ⟨S6656x512, .bf16⟩
  | .local _ .vmem, ⟨18, _⟩ => ⟨S6656x512, .bf16⟩
  | .local _ .vmem, ⟨19, _⟩ => ⟨S1024x6656, .bf16⟩
  | .local _ .vmem, ⟨20, _⟩ => ⟨S1024x6656, .bf16⟩
  | .local _ .vmem, ⟨21, _⟩ => ⟨S1024x64, .bf16⟩
  | .local _ .vmem, ⟨22, _⟩ => ⟨S1024x64, .bf16⟩
  | .local _ .vmem, ⟨23, _⟩ => ⟨S6656x512, .bf16⟩
  | .local _ .vmem, ⟨24, _⟩ => ⟨S6656x512, .bf16⟩
  | .local _ .vmem, ⟨25, _⟩ => ⟨S64x512, .bf16⟩
  | .local _ .vmem, ⟨26, _⟩ => ⟨S64x512, .bf16⟩
  | .local _ .vmem, ⟨27, _⟩ => ⟨S1024x512, .bf16⟩
  | .local _ .vmem, ⟨28, _⟩ => ⟨S1024x512, .bf16⟩
  | _, _ => ⟨S2x8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  v7
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v13 : Index := Scalar.indexCast v8
  let c0_7 : Index := 0#32
  ![v13.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v36 : Index := Scalar.indexCast v8
  let c128 : Index := 128#32
  ![v36.toNat, 128]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v59 : Index := Scalar.indexCast v8
  let c256 : Index := 256#32
  ![v59.toNat, 256]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v82 : Index := Scalar.indexCast v8
  let c384 : Index := 384#32
  ![v82.toNat, 384]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v105 : Index := Scalar.indexCast v8
  let c512 : Index := 512#32
  ![v105.toNat, 512]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v128 : Index := Scalar.indexCast v8
  let c640 : Index := 640#32
  ![v128.toNat, 640]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v151 : Index := Scalar.indexCast v8
  let c768 : Index := 768#32
  ![v151.toNat, 768]
def k0_off8 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v174 : Index := Scalar.indexCast v8
  let c896 : Index := 896#32
  ![v174.toNat, 896]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v197 : Index := Scalar.indexCast v8
  let c1024 : Index := 1024#32
  ![v197.toNat, 1024]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v220 : Index := Scalar.indexCast v8
  let c1152 : Index := 1152#32
  ![v220.toNat, 1152]
def k0_off11 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v243 : Index := Scalar.indexCast v8
  let c1280 : Index := 1280#32
  ![v243.toNat, 1280]
def k0_off12 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v266 : Index := Scalar.indexCast v8
  let c1408 : Index := 1408#32
  ![v266.toNat, 1408]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v289 : Index := Scalar.indexCast v8
  let c1536 : Index := 1536#32
  ![v289.toNat, 1536]
def k0_off14 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v312 : Index := Scalar.indexCast v8
  let c1664 : Index := 1664#32
  ![v312.toNat, 1664]
def k0_off15 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v335 : Index := Scalar.indexCast v8
  let c1792 : Index := 1792#32
  ![v335.toNat, 1792]
def k0_off16 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v358 : Index := Scalar.indexCast v8
  let c1920 : Index := 1920#32
  ![v358.toNat, 1920]
def k0_off17 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v381 : Index := Scalar.indexCast v8
  let c2048 : Index := 2048#32
  ![v381.toNat, 2048]
def k0_off18 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v404 : Index := Scalar.indexCast v8
  let c2176 : Index := 2176#32
  ![v404.toNat, 2176]
def k0_off19 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v427 : Index := Scalar.indexCast v8
  let c2304 : Index := 2304#32
  ![v427.toNat, 2304]
def k0_off20 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v450 : Index := Scalar.indexCast v8
  let c2432 : Index := 2432#32
  ![v450.toNat, 2432]
def k0_off21 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v473 : Index := Scalar.indexCast v8
  let c2560 : Index := 2560#32
  ![v473.toNat, 2560]
def k0_off22 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v496 : Index := Scalar.indexCast v8
  let c2688 : Index := 2688#32
  ![v496.toNat, 2688]
def k0_off23 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v519 : Index := Scalar.indexCast v8
  let c2816 : Index := 2816#32
  ![v519.toNat, 2816]
def k0_off24 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v542 : Index := Scalar.indexCast v8
  let c2944 : Index := 2944#32
  ![v542.toNat, 2944]
def k0_off25 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v565 : Index := Scalar.indexCast v8
  let c3072 : Index := 3072#32
  ![v565.toNat, 3072]
def k0_off26 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v588 : Index := Scalar.indexCast v8
  let c3200 : Index := 3200#32
  ![v588.toNat, 3200]
def k0_off27 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v611 : Index := Scalar.indexCast v8
  let c3328 : Index := 3328#32
  ![v611.toNat, 3328]
def k0_off28 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v634 : Index := Scalar.indexCast v8
  let c3456 : Index := 3456#32
  ![v634.toNat, 3456]
def k0_off29 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v657 : Index := Scalar.indexCast v8
  let c3584 : Index := 3584#32
  ![v657.toNat, 3584]
def k0_off30 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v680 : Index := Scalar.indexCast v8
  let c3712 : Index := 3712#32
  ![v680.toNat, 3712]
def k0_off31 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v703 : Index := Scalar.indexCast v8
  let c3840 : Index := 3840#32
  ![v703.toNat, 3840]
def k0_off32 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v726 : Index := Scalar.indexCast v8
  let c3968 : Index := 3968#32
  ![v726.toNat, 3968]
def k0_off33 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v749 : Index := Scalar.indexCast v8
  let c4096 : Index := 4096#32
  ![v749.toNat, 4096]
def k0_off34 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v772 : Index := Scalar.indexCast v8
  let c4224 : Index := 4224#32
  ![v772.toNat, 4224]
def k0_off35 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v795 : Index := Scalar.indexCast v8
  let c4352 : Index := 4352#32
  ![v795.toNat, 4352]
def k0_off36 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v818 : Index := Scalar.indexCast v8
  let c4480 : Index := 4480#32
  ![v818.toNat, 4480]
def k0_off37 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v841 : Index := Scalar.indexCast v8
  let c4608 : Index := 4608#32
  ![v841.toNat, 4608]
def k0_off38 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v864 : Index := Scalar.indexCast v8
  let c4736 : Index := 4736#32
  ![v864.toNat, 4736]
def k0_off39 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v887 : Index := Scalar.indexCast v8
  let c4864 : Index := 4864#32
  ![v887.toNat, 4864]
def k0_off40 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v910 : Index := Scalar.indexCast v8
  let c4992 : Index := 4992#32
  ![v910.toNat, 4992]
def k0_off41 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v933 : Index := Scalar.indexCast v8
  let c5120 : Index := 5120#32
  ![v933.toNat, 5120]
def k0_off42 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v956 : Index := Scalar.indexCast v8
  let c5248 : Index := 5248#32
  ![v956.toNat, 5248]
def k0_off43 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v979 : Index := Scalar.indexCast v8
  let c5376 : Index := 5376#32
  ![v979.toNat, 5376]
def k0_off44 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1002 : Index := Scalar.indexCast v8
  let c5504 : Index := 5504#32
  ![v1002.toNat, 5504]
def k0_off45 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1025 : Index := Scalar.indexCast v8
  let c5632 : Index := 5632#32
  ![v1025.toNat, 5632]
def k0_off46 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1048 : Index := Scalar.indexCast v8
  let c5760 : Index := 5760#32
  ![v1048.toNat, 5760]
def k0_off47 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1071 : Index := Scalar.indexCast v8
  let c5888 : Index := 5888#32
  ![v1071.toNat, 5888]
def k0_off48 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1094 : Index := Scalar.indexCast v8
  let c6016 : Index := 6016#32
  ![v1094.toNat, 6016]
def k0_off49 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1117 : Index := Scalar.indexCast v8
  let c6144 : Index := 6144#32
  ![v1117.toNat, 6144]
def k0_off50 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1140 : Index := Scalar.indexCast v8
  let c6272 : Index := 6272#32
  ![v1140.toNat, 6272]
def k0_off51 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1163 : Index := Scalar.indexCast v8
  let c6400 : Index := 6400#32
  ![v1163.toNat, 6400]
def k0_off52 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1186 : Index := Scalar.indexCast v8
  let c6528 : Index := 6528#32
  ![v1186.toNat, 6528]
def k0_off53 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1216 : Index := Scalar.indexCast v8
  let c0_224 : Index := 0#32
  ![v1216.toNat, 0]
def k0_off54 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1366 : Index := Scalar.indexCast v8
  let c0_264 : Index := 0#32
  ![v1366.toNat, 0]
def k0_off55 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1506 : Index := Scalar.indexCast v8
  let c128_304 : Index := 128#32
  ![v1506.toNat, 128]
def k0_off56 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1646 : Index := Scalar.indexCast v8
  let c256_344 : Index := 256#32
  ![v1646.toNat, 256]
def k0_off57 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1786 : Index := Scalar.indexCast v8
  let c384_384 : Index := 384#32
  ![v1786.toNat, 384]
def k0_off58 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v1926 : Index := Scalar.indexCast v8
  let c512_424 : Index := 512#32
  ![v1926.toNat, 512]
def k0_off59 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v2066 : Index := Scalar.indexCast v8
  let c640_464 : Index := 640#32
  ![v2066.toNat, 640]
def k0_off60 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v2206 : Index := Scalar.indexCast v8
  let c768_504 : Index := 768#32
  ![v2206.toNat, 768]
def k0_off61 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v2346 : Index := Scalar.indexCast v8
  let c896_544 : Index := 896#32
  ![v2346.toNat, 896]
def k0_off62 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v2486 : Index := Scalar.indexCast v8
  let c1024_584 : Index := 1024#32
  ![v2486.toNat, 1024]
def k0_off63 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v2626 : Index := Scalar.indexCast v8
  let c1152_624 : Index := 1152#32
  ![v2626.toNat, 1152]
def k0_off64 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v2766 : Index := Scalar.indexCast v8
  let c1280_664 : Index := 1280#32
  ![v2766.toNat, 1280]
def k0_off65 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v2906 : Index := Scalar.indexCast v8
  let c1408_704 : Index := 1408#32
  ![v2906.toNat, 1408]
def k0_off66 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v3046 : Index := Scalar.indexCast v8
  let c1536_744 : Index := 1536#32
  ![v3046.toNat, 1536]
def k0_off67 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v3186 : Index := Scalar.indexCast v8
  let c1664_784 : Index := 1664#32
  ![v3186.toNat, 1664]
def k0_off68 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v3326 : Index := Scalar.indexCast v8
  let c1792_824 : Index := 1792#32
  ![v3326.toNat, 1792]
def k0_off69 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v3466 : Index := Scalar.indexCast v8
  let c1920_864 : Index := 1920#32
  ![v3466.toNat, 1920]
def k0_off70 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v3606 : Index := Scalar.indexCast v8
  let c2048_904 : Index := 2048#32
  ![v3606.toNat, 2048]
def k0_off71 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v3746 : Index := Scalar.indexCast v8
  let c2176_944 : Index := 2176#32
  ![v3746.toNat, 2176]
def k0_off72 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v3886 : Index := Scalar.indexCast v8
  let c2304_984 : Index := 2304#32
  ![v3886.toNat, 2304]
def k0_off73 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v4026 : Index := Scalar.indexCast v8
  let c2432_1024 : Index := 2432#32
  ![v4026.toNat, 2432]
def k0_off74 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v4166 : Index := Scalar.indexCast v8
  let c2560_1064 : Index := 2560#32
  ![v4166.toNat, 2560]
def k0_off75 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v4306 : Index := Scalar.indexCast v8
  let c2688_1104 : Index := 2688#32
  ![v4306.toNat, 2688]
def k0_off76 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v4446 : Index := Scalar.indexCast v8
  let c2816_1144 : Index := 2816#32
  ![v4446.toNat, 2816]
def k0_off77 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v4586 : Index := Scalar.indexCast v8
  let c2944_1184 : Index := 2944#32
  ![v4586.toNat, 2944]
def k0_off78 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v4726 : Index := Scalar.indexCast v8
  let c3072_1224 : Index := 3072#32
  ![v4726.toNat, 3072]
def k0_off79 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v7 : BitVec 32 := Scalar.muli arg7 c32_i32
  let v8 : BitVec 32 := v7
  let v4866 : Index := Scalar.indexCast v8
  let c3200_1264 : Index := 3200#32
  ![v4866.toNat, 3200]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6656x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6656 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3328 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x104 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

@[reducible] def k1_t1_loop : Scf.Loop 32 :=
  let c0_i32 : BitVec 32 := 0#32
  let c13_i32 : BitVec 32 := 13#32
  let v0 : BitVec 32 := Scalar.addi c0_i32 c13_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c512_i32 : BitVec 32 := 512#32
  let v1 : BitVec 32 := Scalar.muli arg5 c512_i32
  v1
def k1_mult2 (k1_t1 : Fin k1_t1_loop.trips) : BitVec 32 :=
  let c0_i32 : BitVec 32 := 0#32
  let c1_i32 : BitVec 32 := 1#32
  let arg5 : BitVec 32 := Scf.iv c0_i32 c1_i32 k1_t1
  let c8_i32 : BitVec 32 := 8#32
  let v3 : BitVec 32 := Scalar.muli arg5 c8_i32
  v3
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v1 : BitVec 32 := Scalar.muli arg5 c512_i32
  let v2 : BitVec 32 := v1
  let v5 : Index := Scalar.indexCast v2
  let c0 : Index := 0#32
  ![v5.toNat, 0]
def k1_off2 (k1_t1 : Fin k1_t1_loop.trips) : Fin 2 → Nat :=
  let c0_i32 : BitVec 32 := 0#32
  let c1_i32 : BitVec 32 := 1#32
  let arg5 : BitVec 32 := Scf.iv c0_i32 c1_i32 k1_t1
  let c8_i32 : BitVec 32 := 8#32
  let v3 : BitVec 32 := Scalar.muli arg5 c8_i32
  let v4 : BitVec 32 := v3
  let v8 : Index := Scalar.indexCast v4
  let c0_1 : Index := 0#32
  ![v8.toNat, 0]
def k1_off3 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v1 : BitVec 32 := Scalar.muli arg5 c512_i32
  let v2 : BitVec 32 := v1
  let v274 : Index := Scalar.indexCast v2
  let c0_22 : Index := 0#32
  ![v274.toNat, 0]
def k1_off4 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v1 : BitVec 32 := Scalar.muli arg5 c512_i32
  let v2 : BitVec 32 := v1
  let v276 : Index := Scalar.indexCast v2
  let c128 : Index := 128#32
  ![v276.toNat, 128]
def k1_off5 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v1 : BitVec 32 := Scalar.muli arg5 c512_i32
  let v2 : BitVec 32 := v1
  let v278 : Index := Scalar.indexCast v2
  let c128_23 : Index := 128#32
  ![v278.toNat, 128]
def k1_off6 (k1_t1 : Fin k1_t1_loop.trips) : Fin 2 → Nat :=
  let c0_i32 : BitVec 32 := 0#32
  let c1_i32 : BitVec 32 := 1#32
  let arg5 : BitVec 32 := Scf.iv c0_i32 c1_i32 k1_t1
  let c8_i32 : BitVec 32 := 8#32
  let v3 : BitVec 32 := Scalar.muli arg5 c8_i32
  let v4 : BitVec 32 := v3
  let v281 : Index := Scalar.indexCast v4
  let c256 : Index := 256#32
  ![v281.toNat, 256]
def k1_off7 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v1 : BitVec 32 := Scalar.muli arg5 c512_i32
  let v2 : BitVec 32 := v1
  let v547 : Index := Scalar.indexCast v2
  let c256_49 : Index := 256#32
  ![v547.toNat, 256]
def k1_off8 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v1 : BitVec 32 := Scalar.muli arg5 c512_i32
  let v2 : BitVec 32 := v1
  let v549 : Index := Scalar.indexCast v2
  let c384 : Index := 384#32
  ![v549.toNat, 384]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S6656x256 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S104x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S104x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6656x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x6656 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S6656x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S64x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S2x8192x6656 : Shape := ⟨3, ![2, 8192, 6656]⟩
abbrev S6656x8192 : Shape := ⟨2, ![6656, 8192]⟩
abbrev S104x16384 : Shape := ⟨2, ![104, 16384]⟩
abbrev S6656x64 : Shape := ⟨2, ![6656, 64]⟩
abbrev S64x16384 : Shape := ⟨2, ![64, 16384]⟩
abbrev S2x8192x104x64 : Shape := ⟨4, ![2, 8192, 104, 64]⟩
abbrev S_ : Shape := ⟨0, ![]⟩
abbrev S2x8192x104 : Shape := ⟨3, ![2, 8192, 104]⟩
abbrev S2x8192x104x1 : Shape := ⟨4, ![2, 8192, 104, 1]⟩
abbrev S2x8192x3328 : Shape := ⟨3, ![2, 8192, 3328]⟩
abbrev S104x8192 : Shape := ⟨2, ![104, 8192]⟩
abbrev S104x64x8192 : Shape := ⟨3, ![104, 64, 8192]⟩
abbrev S104x1x8192 : Shape := ⟨3, ![104, 1, 8192]⟩
abbrev S2x8192x8192 : Shape := ⟨3, ![2, 8192, 8192]⟩
abbrev S2x8192x8192x1 : Shape := ⟨4, ![2, 8192, 8192, 1]⟩
abbrev S2x8192x8192x2 : Shape := ⟨4, ![2, 8192, 8192, 2]⟩
abbrev S2x8192x16384 : Shape := ⟨3, ![2, 8192, 16384]⟩
abbrev S2x8192x64 : Shape := ⟨3, ![2, 8192, 64]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x6656, .bf16⟩
  | .hbm, ⟨1, _⟩ => ⟨S6656x8192, .i8⟩
  | .hbm, ⟨2, _⟩ => ⟨S104x16384, .f32⟩
  | .hbm, ⟨3, _⟩ => ⟨S104x16384, .bf16⟩
  | .hbm, ⟨4, _⟩ => ⟨S6656x64, .bf16⟩
  | .hbm, ⟨5, _⟩ => ⟨S64x16384, .bf16⟩
  | .hbm, ⟨6, _⟩ => ⟨S2x8192x6656, .f32⟩
  | .hbm, ⟨7, _⟩ => ⟨S2x8192x104x64, .f32⟩
  | .hbm, ⟨8, _⟩ => ⟨S2x8192x104x64, .f32⟩
  | .hbm, ⟨9, _⟩ => ⟨S_, .f32⟩
  | .hbm, ⟨10, _⟩ => ⟨S2x8192x104, .f32⟩
  | .hbm, ⟨11, _⟩ => ⟨S_, .f32⟩
  | .hbm, ⟨12, _⟩ => ⟨S2x8192x104, .f32⟩
  | .hbm, ⟨13, _⟩ => ⟨S2x8192x104, .i1⟩
  | .hbm, ⟨14, _⟩ => ⟨S_, .f32⟩
  | .hbm, ⟨15, _⟩ => ⟨S2x8192x104, .f32⟩
  | .hbm, ⟨16, _⟩ => ⟨S2x8192x104, .f32⟩
  | .hbm, ⟨17, _⟩ => ⟨S_, .f32⟩
  | .hbm, ⟨18, _⟩ => ⟨S_, .f32⟩
  | .hbm, ⟨19, _⟩ => ⟨S2x8192x104, .f32⟩
  | .hbm, ⟨20, _⟩ => ⟨S2x8192x104, .f32⟩
  | .hbm, ⟨21, _⟩ => ⟨S2x8192x104x1, .f32⟩
  | .hbm, ⟨22, _⟩ => ⟨S2x8192x104x64, .f32⟩
  | .hbm, ⟨23, _⟩ => ⟨S2x8192x104x64, .f32⟩
  | .hbm, ⟨24, _⟩ => ⟨S2x8192x104x64, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S2x8192x104x64, .f32⟩
  | .hbm, ⟨29, _⟩ => ⟨S2x8192x104x64, .f32⟩
  | .hbm, ⟨30, _⟩ => ⟨S_, .f32⟩
  | .hbm, ⟨31, _⟩ => ⟨S2x8192x104x64, .f32⟩
  | .hbm, ⟨32, _⟩ => ⟨S2x8192x104x64, .f32⟩
  | .hbm, ⟨33, _⟩ => ⟨S2x8192x104x64, .i32⟩
  | .hbm, ⟨34, _⟩ => ⟨S2x8192x6656, .i32⟩
  | .hbm, ⟨35, _⟩ => ⟨S_, .i32⟩
  | .hbm, ⟨36, _⟩ => ⟨S2x8192x6656, .i32⟩
  | .hbm, ⟨37, _⟩ => ⟨S2x8192x6656, .i32⟩
  | .hbm, ⟨38, _⟩ => ⟨S2x8192x3328, .i32⟩
  | .hbm, ⟨39, _⟩ => ⟨S2x8192x3328, .i32⟩
  | .hbm, ⟨40, _⟩ => ⟨S_, .i32⟩
  | .hbm, ⟨41, _⟩ => ⟨S2x8192x3328, .i32⟩
  | .hbm, ⟨42, _⟩ => ⟨S2x8192x3328, .i32⟩
  | .hbm, ⟨43, _⟩ => ⟨S2x8192x3328, .i32⟩
  | .hbm, ⟨44, _⟩ => ⟨S2x8192x3328, .i8⟩
  | .hbm, ⟨45, _⟩ => ⟨S2x8192x104x64, .i32⟩
  | .hbm, ⟨46, _⟩ => ⟨S2x8192x104x64, .f32⟩
  | .hbm, ⟨47, _⟩ => ⟨S2x8192x104x64, .bf16⟩
  | .hbm, ⟨48, _⟩ => ⟨S2x8192x104, .bf16⟩
  | .hbm, ⟨49, _⟩ => ⟨S2x8192x104x1, .bf16⟩
  | .hbm, ⟨50, _⟩ => ⟨S2x8192x104x64, .bf16⟩
  | .hbm, ⟨51, _⟩ => ⟨S2x8192x104x64, .bf16⟩
  | .hbm, ⟨52, _⟩ => ⟨S2x8192x6656, .bf16⟩
  | .hbm, ⟨53, _⟩ => ⟨S6656x8192, .i32⟩
  | .hbm, ⟨54, _⟩ => ⟨S_, .i32⟩
  | .hbm, ⟨55, _⟩ => ⟨S6656x8192, .i32⟩
  | .hbm, ⟨56, _⟩ => ⟨S6656x8192, .i32⟩
  | .hbm, ⟨57, _⟩ => ⟨S_, .i32⟩
  | .hbm, ⟨58, _⟩ => ⟨S6656x8192, .i32⟩
  | .hbm, ⟨59, _⟩ => ⟨S6656x8192, .i32⟩
  | .hbm, ⟨60, _⟩ => ⟨S104x8192, .bf16⟩
  | .hbm, ⟨61, _⟩ => ⟨S104x8192, .f32⟩
  | .hbm, ⟨62, _⟩ => ⟨S104x64x8192, .i32⟩
  | .hbm, ⟨63, _⟩ => ⟨S104x64x8192, .f32⟩
  | .hbm, ⟨64, _⟩ => ⟨S104x64x8192, .bf16⟩
  | .hbm, ⟨65, _⟩ => ⟨S104x1x8192, .bf16⟩
  | .hbm, ⟨66, _⟩ => ⟨S104x64x8192, .bf16⟩
  | .hbm, ⟨67, _⟩ => ⟨S104x64x8192, .bf16⟩
  | .hbm, ⟨68, _⟩ => ⟨S104x8192, .bf16⟩
  | .hbm, ⟨69, _⟩ => ⟨S104x1x8192, .bf16⟩
  | .hbm, ⟨70, _⟩ => ⟨S104x64x8192, .bf16⟩
  | .hbm, ⟨71, _⟩ => ⟨S104x64x8192, .bf16⟩
  | .hbm, ⟨72, _⟩ => ⟨S6656x8192, .bf16⟩
  | .hbm, ⟨73, _⟩ => ⟨S104x8192, .bf16⟩
  | .hbm, ⟨74, _⟩ => ⟨S104x8192, .f32⟩
  | .hbm, ⟨75, _⟩ => ⟨S104x64x8192, .i32⟩
  | .hbm, ⟨76, _⟩ => ⟨S104x64x8192, .f32⟩
  | .hbm, ⟨77, _⟩ => ⟨S104x64x8192, .bf16⟩
  | .hbm, ⟨78, _⟩ => ⟨S104x1x8192, .bf16⟩
  | .hbm, ⟨79, _⟩ => ⟨S104x64x8192, .bf16⟩
  | .hbm, ⟨80, _⟩ => ⟨S104x64x8192, .bf16⟩
  | .hbm, ⟨81, _⟩ => ⟨S104x8192, .bf16⟩
  | .hbm, ⟨82, _⟩ => ⟨S104x1x8192, .bf16⟩
  | .hbm, ⟨83, _⟩ => ⟨S104x64x8192, .bf16⟩
  | .hbm, ⟨84, _⟩ => ⟨S104x64x8192, .bf16⟩
  | .hbm, ⟨85, _⟩ => ⟨S6656x8192, .bf16⟩
  | .hbm, ⟨86, _⟩ => ⟨S2x8192x8192, .f32⟩
  | .hbm, ⟨87, _⟩ => ⟨S2x8192x8192, .f32⟩
  | .hbm, ⟨88, _⟩ => ⟨S2x8192x8192x1, .f32⟩
  | .hbm, ⟨89, _⟩ => ⟨S2x8192x8192x1, .f32⟩
  | .hbm, ⟨90, _⟩ => ⟨S2x8192x8192x2, .f32⟩
  | .hbm, ⟨91, _⟩ => ⟨S2x8192x16384, .f32⟩
  | .hbm, ⟨92, _⟩ => ⟨S2x8192x64, .f32⟩
  | .hbm, ⟨93, _⟩ => ⟨S2x8192x64, .bf16⟩
  | .hbm, ⟨94, _⟩ => ⟨S2x8192x16384, .f32⟩
  | .hbm, ⟨95, _⟩ => ⟨S2x8192x16384, .f32⟩
  | .hbm, ⟨96, _⟩ => ⟨S2x8192x16384, .bf16⟩
  | _, _ => ⟨S2x8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Proof.Spec.lean ====
/- The mathematics both programs compute, on extended reals: int4 quantisation of activation rows by groups of 64,
   packed codes, weights dequantised from unsigned nibbles, and the product with a low-rank update. -/
module

public import Idealize.ShloMosaic.Lib.Pointwise
public import Idealize.ShloMosaic.Lib.BitcastFour
public import Idealize.ShloMosaic.PureOps.Ideal

@[expose] public section

noncomputable section

namespace Cert.Lowp

open Idealize.ShloMosaic

/-! ### The specification -/

/-- Nibble `p` of a byte (0 the low one), as an unsigned number. -/
def nibble (p : ℕ) (b : BitVec 8) : ℕ := b.toNat / 16 ^ p % 16

/-- The largest magnitude of group `g` of a row. -/
def amax (row : Fin 6656 → EReal) (g : Fin 104) : EReal :=
  Finset.univ.fold max ⊥ fun l : Fin 64 => max (row ⟨64 * g.val + l.val, by omega⟩) (-(row ⟨64 * g.val + l.val, by omega⟩))

/-- The scale of group `g`: its largest magnitude over 7, or 1 for a group of zeros. -/
def scale (row : Fin 6656 → EReal) (g : Fin 104) : EReal :=
  Scalar.select (Ideal.cmp .ogt (amax row g) 0) (Ideal.div (amax row g) (Ideal.ofBits .f32 0x40E00000#32)) (Ideal.ofBits .f32 0x3F800000#32)

/-- A quotient rounded to nearest, ties to even, and clipped to [-8, 7]. -/
def clip (x : EReal) : EReal :=
  min (((7#32 : BitVec 32).toInt : ℝ) : EReal) (max (((4294967288#32 : BitVec 32).toInt : ℝ) : EReal) (Ideal.liftRound Ideal.roundHalfEven x))

/-- The int4 value of entry `j` of a row. -/
def quant (row : Fin 6656 → EReal) (j : Fin 6656) : EReal :=
  clip (Ideal.div (row j) (scale row ⟨j.val / 64, by omega⟩))

/-- The dequantised entry. -/
def deq (row : Fin 6656 → EReal) (j : Fin 6656) : EReal := quant row j * scale row ⟨j.val / 64, by omega⟩

/-- Two int4 values in a byte, the first in the low nibble. -/
def join (a b : BitVec 8) : BitVec 8 := (a &&& 15#8) ||| ((b &&& 15#8) <<< 4)

/-- Packed byte `k` of a row. -/
def code (row : Fin 6656 → EReal) (k : Fin 3328) : BitVec 8 :=
  join (Ideal.fptosi 8 (quant row ⟨2 * k.val, by omega⟩)) (Ideal.fptosi 8 (quant row ⟨2 * k.val + 1, by omega⟩))

/-- The dequantised weight: nibble minus zero point, times scale. -/
def weight (w : Fin 6656 → Fin 8192 → BitVec 8) (z s : Fin 104 → Fin 16384 → EReal) (i : Fin 6656) (j : Fin 16384) : EReal :=
  (((nibble (j.val % 2) (w i ⟨j.val / 2, by omega⟩) : ℕ) : ℝ) - z ⟨i.val / 64, by omega⟩ j) * s ⟨i.val / 64, by omega⟩ j

/-- The low-rank projection of a row. -/
def lora (row : Fin 6656 → EReal) (l1 : Fin 6656 → Fin 64 → EReal) (r : Fin 64) : EReal := ∑ j, row j * l1 j r

/-- The output entry. -/
def out (row : Fin 6656 → EReal) (w : Fin 6656 → Fin 8192 → BitVec 8) (z s : Fin 104 → Fin 16384 → EReal)
    (l1 : Fin 6656 → Fin 64 → EReal) (l2 : Fin 64 → Fin 16384 → EReal) (j : Fin 16384) : EReal :=
  (∑ i, deq row i * weight w z s i j) + ∑ r, lora row l1 r * l2 r j

/-! ### A clipped value is an integer between -8 and 7 -/

theorem clip_eq (x : EReal) : ∃ n : ℤ, -8 ≤ n ∧ n ≤ 7 ∧ clip x = ((n : ℝ) : EReal) := by
  have h7 : (7#32 : BitVec 32).toInt = 7 := by decide
  have h8 : (4294967288#32 : BitVec 32).toInt = -8 := by decide
  unfold clip
  rw [h7, h8]
  induction x with
  | bot => exact ⟨-8, by norm_num, by norm_num, by
      rw [Ideal.liftRound_bot, max_eq_left bot_le, min_eq_right]; exact EReal.coe_le_coe_iff.2 (by norm_num)⟩
  | top => exact ⟨7, by norm_num, by norm_num, by rw [Ideal.liftRound_top, max_eq_right le_top, min_eq_left le_top]⟩
  | coe r =>
    refine ⟨min 7 (max (-8) (Ideal.roundHalfEven r)), by omega, by omega, ?_⟩
    have hmono : Monotone fun r : ℝ => (r : EReal) := EReal.coe_strictMono.monotone
    rw [Ideal.liftRound_coe]
    push_cast
    rw [hmono.map_min, hmono.map_max, EReal.coe_neg]

/-- Such a value converted to an integer of `w` bits is that integer. -/
theorem fptosi_int (w : ℕ) (hw : 8 ≤ w) (n : ℤ) (h1 : -8 ≤ n) (h2 : n ≤ 7) : Ideal.fptosi w ((n : ℝ) : EReal) = BitVec.ofInt w n := by
  have hp : (128 : ℕ) ≤ 2 ^ (w - 1) := by
    calc (128 : ℕ) = 2 ^ 7 := rfl
      _ ≤ 2 ^ (w - 1) := Nat.pow_le_pow_right (by norm_num) (by omega)
  have hp' : (128 : ℤ) ≤ ((2 ^ (w - 1) : ℕ) : ℤ) := by exact_mod_cast hp
  unfold Ideal.fptosi
  congr 1
  show max _ (min _ (if (0 : ℝ) ≤ (n : ℝ) then ⌊(n : ℝ)⌋ else ⌈(n : ℝ)⌉)) = n
  rw [Int.floor_intCast, Int.ceil_intCast, ite_self]
  omega

/-- The 32-bit integer of a clipped value is read back exactly. -/
theorem toInt_fptosi_clip (x : EReal) : (((Ideal.fptosi 32 (clip x)).toInt : ℝ) : EReal) = clip x := by
  obtain ⟨n, h1, h2, e⟩ := clip_eq x
  rw [e, fptosi_int 32 (by norm_num) n h1 h2, BitVec.toInt_ofInt]
  congr 2
  rw [Int.bmod_eq_of_le] <;> norm_num <;> omega

theorem join_table : ∀ a b : Fin 16,
    BitVec.setWidth 8 (IntOp.ori (IntOp.andi (BitVec.ofInt 32 ((a.val : ℤ) - 8)) 15#32) (IntOp.shli .host (IntOp.andi (BitVec.ofInt 32 ((b.val : ℤ) - 8)) 15#32) 4#32))
      = join (BitVec.ofInt 8 ((a.val : ℤ) - 8)) (BitVec.ofInt 8 ((b.val : ℤ) - 8)) := by decide +kernel

/-- Packing 32-bit codes and then truncating is packing bytes. -/
theorem join_trunc (x y : EReal) :
    BitVec.setWidth 8 (IntOp.ori (IntOp.andi (Ideal.fptosi 32 (clip x)) 15#32) (IntOp.shli .host (IntOp.andi (Ideal.fptosi 32 (clip y)) 15#32) 4#32))
      = join (Ideal.fptosi 8 (clip x)) (Ideal.fptosi 8 (clip y)) := by
  obtain ⟨n, h1, h2, e⟩ := clip_eq x
  obtain ⟨k, k1, k2, f⟩ := clip_eq y
  rw [e, f, fptosi_int 32 (by norm_num) n h1 h2, fptosi_int 32 (by norm_num) k k1 k2, fptosi_int 8 (by norm_num) n h1 h2,
    fptosi_int 8 (by norm_num) k k1 k2]
  have hn : n = (((n + 8).toNat : ℕ) : ℤ) - 8 := by omega
  have hk : k = (((k + 8).toNat : ℕ) : ℤ) - 8 := by omega
  have := join_table ⟨(n + 8).toNat, by omega⟩ ⟨(k + 8).toNat, by omega⟩
  rw [hn, hk]
  exact this

/-! ### Nibbles -/

theorem nibble_shift_table : ∀ p : Fin 2, ∀ b : Fin 256,
    (((BitVec.ofNat 8 b.val >>> (4 * p.val)) &&& 15#8).toInt) = (nibble p.val (BitVec.ofNat 8 b.val) : ℤ) := by decide +kernel

theorem nibble_low_table : ∀ b : Fin 256,
    (IntOp.andi ((BitVec.ofNat 8 b.val).setWidth 32) 15#32).toInt = (nibble 0 (BitVec.ofNat 8 b.val) : ℤ) := by decide +kernel

theorem nibble_high_table : ∀ b : Fin 256,
    (IntOp.shrsi .host ((BitVec.ofNat 8 b.val).setWidth 32) 4#32).toInt = (nibble 1 (BitVec.ofNat 8 b.val) : ℤ) := by decide +kernel

theorem ofNat_byte (b : BitVec 8) : BitVec.ofNat 8 (⟨b.toNat, b.isLt⟩ : Fin 256).val = b := by simp

theorem nibble_shift (p : ℕ) (hp : p < 2) (b : BitVec 8) : ((b >>> (4 * p)) &&& 15#8).toInt = (nibble p b : ℤ) := by
  have := nibble_shift_table ⟨p, hp⟩ ⟨b.toNat, b.isLt⟩
  rwa [ofNat_byte] at this

theorem nibble_low (b : BitVec 8) : (IntOp.andi (b.setWidth 32) 15#32).toInt = (nibble 0 b : ℤ) := by
  have := nibble_low_table ⟨b.toNat, b.isLt⟩
  rwa [ofNat_byte] at this

theorem nibble_high (b : BitVec 8) : (IntOp.shrsi .host (b.setWidth 32) 4#32).toInt = (nibble 1 b : ℤ) := by
  have := nibble_high_table ⟨b.toNat, b.isLt⟩
  rwa [ofNat_byte] at this

/-! ### Words and bytes -/

/-- A word's bytes at rank 2: byte `a % 4` of row `a / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (a : Fin R) (l : Fin n) (q : Nat) (hq : q < 8) (p : Fin r)
    (hp : p.val = a.val / 4) :
    (bitcast ⟨2, ![R, n]⟩ 8 x h (ix2 a l)).getLsbD q = (x (ix2 p l)).getLsbD (8 * (a.val % 4) + q) := by
  have hrow : (⟨2, ![R, n]⟩ : Shape).row (ix2 a l) = a.val := rfl
  rw [bitcast_getLsbD x h _ q hq (by decide)]
  have e1 : ((⟨2, ![R, n]⟩ : Shape).row (ix2 a l) * 8 + q) / 32 = a.val / 4 := by rw [hrow]; omega
  have e2 : ((⟨2, ![R, n]⟩ : Shape).row (ix2 a l) * 8 + q) % 32 = 8 * (a.val % 4) + q := by rw [hrow]; omega
  rw [e2]
  congr 2
  funext c
  match c with
  | ⟨0, _⟩ => exact Fin.ext ((h.srcIdx_row _ _ _ ⟨0, Nat.zero_lt_two⟩ rfl).trans (e1.trans hp.symm))
  | ⟨1, _⟩ => exact Fin.ext (h.srcIdx_other _ _ _ ⟨1, Nat.one_lt_two⟩ (by show ¬ 1 + 2 = 2; omega))

/-- The mask of the low nibble of each byte. -/
theorem mask_bit (q : ℕ) (hq : q < 32) : (252645135#32 : BitVec 32).getLsbD q = decide (q % 8 < 4) := by
  interval_cases q <;> rfl

theorem mask8_bit (q : ℕ) (hq : q < 8) : (15#8 : BitVec 8).getLsbD q = decide (q < 4) := by
  interval_cases q <;> rfl

end Cert.Lowp
-- ==== Proof.Results.lean ====
/- The three results as functions of the six argument arrays: the output, the packed codes, and the scales. -/
module

public import proofs.«01_k».proof.Proof.Spec

@[expose] public section

noncomputable section

namespace Cert.Lowp

open Idealize.ShloMosaic

/-- Row `(b, s)` of the activations. -/
def row (x : FVec Ideal ⟨3, ![2, 8192, 6656]⟩ .bf16) (b : Fin 2) (s : Fin 8192) (j : Fin 6656) : EReal := x (ix3 b s j)

/-- The packed weights entry by entry, and the other tables. -/
def bytes (w : IVec ⟨2, ![6656, 8192]⟩ 8) (i : Fin 6656) (k : Fin 8192) : BitVec 8 := w (ix2 i k)
def table {φ : FTy} (z : FVec Ideal ⟨2, ![104, 16384]⟩ φ) (g : Fin 104) (j : Fin 16384) : EReal := z (ix2 g j)
def down (l1 : FVec Ideal ⟨2, ![6656, 64]⟩ .bf16) (j : Fin 6656) (r : Fin 64) : EReal := l1 (ix2 j r)
def up (l2 : FVec Ideal ⟨2, ![64, 16384]⟩ .bf16) (r : Fin 64) (j : Fin 16384) : EReal := l2 (ix2 r j)

/-- The output. -/
def outArr (x : FVec Ideal ⟨3, ![2, 8192, 6656]⟩ .bf16) (w : IVec ⟨2, ![6656, 8192]⟩ 8) (s : FVec Ideal ⟨2, ![104, 16384]⟩ .f32)
    (z : FVec Ideal ⟨2, ![104, 16384]⟩ .bf16) (l1 : FVec Ideal ⟨2, ![6656, 64]⟩ .bf16) (l2 : FVec Ideal ⟨2, ![64, 16384]⟩ .bf16) :
    FVec Ideal ⟨3, ![2, 8192, 16384]⟩ .bf16 :=
  fun i => out (row x (i 0) (i 1)) (bytes w) (table z) (table s) (down l1) (up l2) (i 2)

/-- The packed codes. -/
def codeArr (x : FVec Ideal ⟨3, ![2, 8192, 6656]⟩ .bf16) : IVec ⟨3, ![2, 8192, 3328]⟩ 8 :=
  fun i => code (row x (i 0) (i 1)) (i 2)

/-- The scales. -/
def scaleArr (x : FVec Ideal ⟨3, ![2, 8192, 6656]⟩ .bf16) : FVec Ideal ⟨3, ![2, 8192, 104]⟩ .f32 :=
  fun i => scale (row x (i 0) (i 1)) (i 2)

end Cert.Lowp
-- ==== Proof.KernelRun.lean ====
/- The generated frame run, with the three result arrays at the last boundary's contents. -/
module

public import proofs.«01_k».proof.Proof.Gen.KernelIdeal.Frame

@[expose] public section

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_v6) = W6 m ρ c (Proc.devRef .tc main_v6)
      ∧ r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v5 (by decide)), h c _ (mem_uc main_v6 (by decide)), h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Final
-- ==== Proof.QuantModel.lean ====
/- What one trip of the quantiser's loop stores, written once for a symbolic lane vector `v` of the 52: the group
   maxima collected lane by lane, the scales, the rounded codes, the dequantised activations and the packed codes.
   The trip's found pieces are these functions at `v = 0 … 51`, by unfolding. -/
module

public import proofs.«01_k».proof.Proof.Gen.KernelIdeal.Frame

@[expose] public section

set_option maxRecDepth 16384

noncomputable section

namespace Cert.KernelIdeal.Quant

open Idealize.ShloMosaic Idealize.ShloMosaic.TcCoe Idealize.SL.Sem
open Cert.KernelIdeal Cert.KernelIdeal.Gen

variable {F : FTy → Type} [FloatOps F]

/-- The lane number. -/
def lane : IVec S32x128 32 := iota .tc S32x128 32 [1] iota_S32x128_d1_w32

/-- Which lanes belong to the first of the two groups of a lane vector. -/
def first : IVec S32x128 1 := cmpi .slt lane (broadcast S32x128 64#32)

def zeros : FVec F S32x128 .f32 := broadcast S32x128 (Scalar.ofBits .f32 0x00000000#32)

/-- A loaded lane vector as f32. -/
def wide (x : Vec F S32x128 .bf16) : FVec F S32x128 .f32 :=
  extf .f32 (shapeCast S32x128 x shapeCasts_S32x128_S32x128) bitsLt_bf16_f32

def rowMax (a : FVec F S32x128 .f32) : FVec F S32x1 .f32 :=
  shapeCast S32x1 (multiReduction .maximumf [1] S32 a 0xFF800000#32 reduces_S32x128_S32 (.inl rfl) rfl) shapeCasts_S32_S32x1

/-- Lane `n` set to the row's value `m`. -/
def pick (n : ℕ) (m : FVec F S32x1 .f32) (am : FVec F S32x128 .f32) : FVec F S32x128 .f32 :=
  select (cmpi .eq lane (broadcast S32x128 (BitVec.ofNat 32 n)))
    (broadcastTo S32x128 (shapeCast S32x1 m shapeCasts_S32x1_S32x1) broadcasts_S32x1_S32x128) am

/-- The maxima of the two groups of lane vector `v` put into lanes `2 v` and `2 v + 1`. -/
def amaxStep (v : ℕ) (x : Vec F S32x128 .bf16) (am : FVec F S32x128 .f32) : FVec F S32x128 .f32 :=
  pick (2 * v + 1) (rowMax (select first zeros (absf (wide x)))) (pick (2 * v) (rowMax (select first (absf (wide x)) zeros)) am)

/-- The maxima collected from the first `n` lane vectors. -/
def amaxN (xs : Fin 52 → Vec F S32x128 .bf16) : (n : ℕ) → n ≤ 52 → FVec F S32x128 .f32
  | 0, _ => zeros
  | n + 1, h => amaxStep n (xs ⟨n, h⟩) (amaxN xs n (Nat.le_of_succ_le h))

def scaleOf (am : FVec F S32x128 .f32) : FVec F S32x128 .f32 :=
  select (cmpf .ogt am zeros) (divf am (broadcast S32x128 (Scalar.ofBits .f32 0x40E00000#32)))
    (broadcast S32x128 (Scalar.ofBits .f32 0x3F800000#32))

/-- The scales of the 32 rows, group `g` in lane `g`. -/
def scales (xs : Fin 52 → Vec F S32x128 .bf16) : FVec F S32x128 .f32 := scaleOf (amaxN xs 52 (Nat.le_refl 52))

/-- The lane number over 64, as the printed floor division spells it. -/
def half : IVec S32x128 32 :=
  select
    (andi
      (cmpi .ne (subi (extui 32 (cmpi .sgt lane (broadcast S32x128 0#32)) natLt_1_32) (extui 32 (cmpi .slt lane (broadcast S32x128 0#32)) natLt_1_32))
        (broadcast S32x128 (Scalar.subi (Scalar.extui (Scalar.cmpi .sgt 64#32 0#32)) (Scalar.extui (Scalar.cmpi .slt 64#32 0#32)))))
      (cmpi .ne (remsi lane (broadcast S32x128 64#32)) (broadcast S32x128 0#32)))
    (subi (divsi lane (broadcast S32x128 64#32)) (broadcast S32x128 1#32))
    (divsi lane (broadcast S32x128 64#32))

def wrap (i : IVec S32x128 32) : IVec S32x128 32 :=
  shapeCast S32x128 (shapeCast S32x128x1 (select (cmpi .slt i (broadcast S32x128 0#32)) (addi i (broadcast S32x128 128#32)) i)
    shapeCasts_S32x128_S32x128x1) shapeCasts_S32x128x1_S32x128

/-- The scale of each lane of lane vector `v`. -/
def sbOf (v : ℕ) (sc : FVec F S32x128 .f32) : FVec F S32x128 .f32 :=
  dynamicGather 1 sc (wrap (addi (broadcast S32x128 (BitVec.ofNat 32 (2 * v))) half))

/-- The rounded and clipped quotient of lane vector `v`. -/
def qOf (v : ℕ) (sc : FVec F S32x128 .f32) (x : Vec F S32x128 .bf16) : FVec F S32x128 .f32 :=
  minimumf (broadcast S32x128 (Scalar.sitofp .f32 7#32))
    (maximumf (broadcast S32x128 (Scalar.sitofp .f32 4294967288#32)) (roundeven (divf (wide x) (sbOf v sc))))

def xdOf (v : ℕ) (sc : FVec F S32x128 .f32) (x : Vec F S32x128 .bf16) : FVec F S32x128 .bf16 :=
  mulf (truncf .bf16 (qOf v sc x) bitsLt_bf16_f32) (truncf .bf16 (sbOf v sc) bitsLt_bf16_f32)

def wlane : IVec S8x128 32 := iota .tc S8x128 32 [1] iota_S8x128_d1_w32

/-- The even lane a packed lane is read from. -/
def even : IVec S8x128 32 :=
  select (cmpi .slt wlane (broadcast S8x128 64#32)) (muli (broadcast S8x128 2#32) wlane)
    (muli (broadcast S8x128 2#32) (subi wlane (broadcast S8x128 64#32)))

def wrap8 (i : IVec S8x128 32) : IVec S8x128 32 :=
  shapeCast S8x128 (shapeCast S8x128x1 (select (cmpi .slt i (broadcast S8x128 0#32)) (addi i (broadcast S8x128 128#32)) i)
    shapeCasts_S8x128_S8x128x1) shapeCasts_S8x128x1_S8x128

/-- The low nibbles of the codes, four rows to a word. -/
def nibs (q : FVec F S32x128 .f32) : IVec S8x128 32 :=
  andi (bitcast S8x128 32 (fptosi 8 q : IVec S32x128 8) bitcasts_S32x128_w8_S8x128_w32) (broadcast S8x128 252645135#32)

/-- Each lane's nibble with the next lane's above it. -/
def paired (w : IVec S8x128 32) : IVec S8x128 32 :=
  ori w (shli (dynamicRotate 1 127#32 none w rotates_S8x128_d1) (broadcast S8x128 4#32))

/-- The pairs of lane vector `v`, gathered from the even lanes. -/
def packOf (v : ℕ) (sc : FVec F S32x128 .f32) (x : Vec F S32x128 .bf16) : IVec S8x128 32 :=
  dynamicGather 1 (paired (nibs (qOf v sc x))) (wrap8 even)

/-- The packed codes of two neighbouring lane vectors. -/
def codesOf (v w : ℕ) (sc : FVec F S32x128 .f32) (x y : Vec F S32x128 .bf16) : IVec S32x128 8 :=
  bitcast S32x128 8 (select (cmpi .slt wlane (broadcast S8x128 64#32)) (packOf v sc x) (packOf w sc y)) bitcasts_S8x128_w32_S32x128_w8

/-- The first row of trip `k`, as the program computes it. -/
def rowOf (k : ℕ) : ℕ := (Scalar.indexCast (Scalar.muli (Scf.iv 0#32 1#32 k) 32#32)).toNat

theorem rowOf_eq : ∀ k : Fin 8, rowOf k.val = 32 * k.val := by decide +kernel

theorem trips_eq : k0_t1_loop.trips = 8 := by decide +kernel

theorem rowOf_eq' (k : Fin k0_t1_loop.trips) : rowOf k.val = 32 * k.val :=
  rowOf_eq ⟨k.val, Nat.lt_of_lt_of_eq k.isLt trips_eq⟩

theorem inb_x (k : Fin k0_t1_loop.trips) (v : Fin 52) :
    ∀ a : Fin 2, (![rowOf k.val, 128 * v.val] : Fin 2 → ℕ) a + S32x128.size a ≤ S256x6656.size a := by
  have hk := Nat.lt_of_lt_of_eq k.isLt trips_eq
  have hr := rowOf_eq' k
  intro a; fin_cases a
  · show rowOf k.val + 32 ≤ 256; omega
  · show 128 * v.val + 128 ≤ 6656; omega

theorem inb_c (k : Fin k0_t1_loop.trips) (h : Fin 26) :
    ∀ a : Fin 2, (![rowOf k.val, 128 * h.val] : Fin 2 → ℕ) a + S32x128.size a ≤ S256x3328.size a := by
  have hk := Nat.lt_of_lt_of_eq k.isLt trips_eq
  have hr := rowOf_eq' k
  intro a; fin_cases a
  · show rowOf k.val + 32 ≤ 256; omega
  · show 128 * h.val + 128 ≤ 3328; omega

theorem inb_s (k : Fin k0_t1_loop.trips) :
    ∀ a : Fin 2, (![rowOf k.val, 0] : Fin 2 → ℕ) a + S32x104.size a ≤ S256x104.size a := by
  have hk := Nat.lt_of_lt_of_eq k.isLt trips_eq
  have hr := rowOf_eq' k
  intro a; fin_cases a
  · show rowOf k.val + 32 ≤ 256; omega
  · show 0 + 104 ≤ 104; omega

/-- Lane vector `v` of the 32 rows of trip `k`. -/
abbrev rectX (k : Fin k0_t1_loop.trips) (v : Fin 52) : Rect S256x6656 :=
  Rect.unit (s := S256x6656) ![rowOf k.val, 128 * v.val] S32x128.size (inb_x k v)
abbrev rectC (k : Fin k0_t1_loop.trips) (h : Fin 26) : Rect S256x3328 :=
  Rect.unit (s := S256x3328) ![rowOf k.val, 128 * h.val] S32x128.size (inb_c k h)
abbrev rectS (k : Fin k0_t1_loop.trips) : Rect S256x104 :=
  Rect.unit (s := S256x104) ![rowOf k.val, 0] S32x104.size (inb_s k)

section Trip

variable (𝒱 : Variants) (c : Dev nD) (bd : Option 𝒱.V) (i : grid0.Coords) (arg1 : Memref sig .tc .vmem S256x6656 .bf16) (harg1 : arg1.IsWhole) (arg2 : Memref sig .tc .vmem S6656x64 .bf16) (harg2 : arg2.IsWhole) (arg3 : Memref sig .tc .vmem S256x6656 .bf16) (harg3 : arg3.IsWhole) (arg4 : Memref sig .tc .vmem S256x3328 .i8) (harg4 : arg4.IsWhole) (arg5 : Memref sig .tc .vmem S256x104 .f32) (harg5 : arg5.IsWhole) (arg6 : Memref sig .tc .vmem S256x64 .bf16) (harg6 : arg6.IsWhole) (X : BufTy.Contents (Elt F) arg1.view.ty) (k : Fin k0_t1_loop.trips)

/-- The lane vectors trip `k` loads. -/
def xsOf (v : Fin 52) : Vec F S32x128 .bf16 := View.readAt (Elt F) arg1.view (rectX k v).toLoadRect X

/-- The one piece the trip stores into the scales. -/
theorem trip_scale :
    (trip_k0_t1 (F := F) 𝒱 c bd i arg1 harg1 arg2 harg2 arg3 harg3 arg4 harg4 arg5 harg5 arg6 harg6 X k).2.2.1
      = [⟨rectS k, extractStridedSlice S32x104 ![0, 0] (scales (xsOf arg1 X k)) slices_S32x128_o0_0_S32x104⟩] := by
  unfold trip_k0_t1
  dsimp only
  rfl

/-- The trip's pieces of the dequantised activations: lane vector by lane vector, the last first. -/
theorem trip_xd :
    (trip_k0_t1 (F := F) 𝒱 c bd i arg1 harg1 arg2 harg2 arg3 harg3 arg4 harg4 arg5 harg5 arg6 harg6 X k).1
      = ([51, 50, 49, 48, 47, 46, 45, 44, 43, 42, 41, 40, 39, 38, 37, 36, 35, 34, 33, 32, 31, 30, 29, 28, 27, 26, 25, 24, 23, 22, 21, 20,
          19, 18, 17, 16, 15, 14, 13, 12, 11, 10, 9, 8, 7, 6, 5, 4, 3, 2, 1, 0] : List (Fin 52)).map fun v =>
        ⟨rectX k v, xdOf v.val (scales (xsOf arg1 X k)) (xsOf arg1 X k v)⟩ := by
  unfold trip_k0_t1
  dsimp only [List.map]
  rfl

/-- The trip's pieces of the packed codes: two lane vectors to a piece, the last first. -/
theorem trip_codes :
    (trip_k0_t1 (F := F) 𝒱 c bd i arg1 harg1 arg2 harg2 arg3 harg3 arg4 harg4 arg5 harg5 arg6 harg6 X k).2.1
      = ([25, 24, 23, 22, 21, 20, 19, 18, 17, 16, 15, 14, 13, 12, 11, 10, 9, 8, 7, 6, 5, 4, 3, 2, 1, 0] : List (Fin 26)).map fun h =>
        ⟨rectC k h, codesOf (2 * h.val) (2 * h.val + 1) (scales (xsOf arg1 X k)) (xsOf arg1 X k ⟨2 * h.val, by omega⟩)
          (xsOf arg1 X k ⟨2 * h.val + 1, by omega⟩)⟩ := by
  unfold trip_k0_t1
  dsimp only [List.map]
  rfl

end Trip

end Cert.KernelIdeal.Quant
-- ==== Proof.QuantTile.lean ====
/- The quantiser's stored tiles read at an entry: the scales, the dequantised activations and the packed codes of the
   32 rows of one trip, from the rows' entries. -/
module

public import proofs.«01_k».proof.Proof.QuantModel
public import proofs.«01_k».proof.Proof.Spec
public import Idealize.ShloMosaic.Lib.KernelVsHost
public import Idealize.ShloMosaic.Lib.Pointwise.IndexBridge

@[expose] public section

set_option maxRecDepth 16384

noncomputable section

namespace Cert.KernelIdeal.Quant

open Idealize.ShloMosaic Idealize.ShloMosaic.TcCoe Idealize.SL.Sem
open Cert.KernelIdeal Cert.KernelIdeal.Gen

/-! ### Lane arithmetic -/

theorem lane_lt (v : Fin 52) (l : Fin 128) : 128 * v.val + l.val < 6656 := by omega

theorem lane_lt' (h : Fin 26) (l : Fin 128) : 128 * h.val + l.val < 3328 := by omega

theorem fst_lt (h : Fin 26) : 2 * h.val < 52 := by omega

theorem snd_lt (h : Fin 26) : 2 * h.val + 1 < 52 := by omega

theorem first_table : ∀ l : Fin 128, first (ix2 (0 : Fin 32) l) = BitVec.ofBool (decide (l.val < 64)) := by decide +kernel

theorem first_apply (a : Fin 32) (l : Fin 128) : first (ix2 a l) = BitVec.ofBool (decide (l.val < 64)) := first_table l

theorem eq_table : ∀ n l : Fin 128, cmpi .eq lane (broadcast S32x128 (BitVec.ofNat 32 n.val)) (ix2 (0 : Fin 32) l) = BitVec.ofBool (decide (l = n)) := by decide +kernel

theorem half_table : ∀ l : Fin 128, half (ix2 (0 : Fin 32) l) = BitVec.ofNat 32 (l.val / 64) := by decide +kernel

theorem wrap_table : ∀ v : Fin 52, ∀ l : Fin 2,
    (Scalar.select (IntOp.cmpi .slt (IntOp.addi (BitVec.ofNat 32 (2 * v.val)) (BitVec.ofNat 32 l.val)) 0#32)
      (IntOp.addi (IntOp.addi (BitVec.ofNat 32 (2 * v.val)) (BitVec.ofNat 32 l.val)) 128#32)
      (IntOp.addi (BitVec.ofNat 32 (2 * v.val)) (BitVec.ofNat 32 l.val))).toNat % 128 = 2 * v.val + l.val := by decide +kernel

theorem even_table : ∀ l : Fin 128,
    (Scalar.select (IntOp.cmpi .slt (even (ix2 (0 : Fin 8) l)) 0#32) (IntOp.addi (even (ix2 (0 : Fin 8) l)) 128#32)
      (even (ix2 (0 : Fin 8) l))).toNat % 128 = 2 * (l.val % 64) := by decide +kernel

/-! ### Group maxima -/

theorem abs_nonneg' (x : EReal) : 0 ≤ max x (-x) := by
  rcases le_total 0 x with h | h
  · exact le_max_of_le_left h
  · exact le_max_of_le_right (EReal.neg_nonneg.2 h)

theorem negInf : Ideal.ofBits .f32 0xFF800000#32 = ⊥ := by simp [Ideal.ofBits, Ideal.ieee]

/-- A row's maximum over the lanes of one half, the other half's lanes read as 0. -/
theorem rowMax_half (p : Fin 2) (c : IVec S32x128 1) (x : FVec Ideal S32x128 .f32) (a : Fin 32)
    (f : Fin 128 → EReal) (hf : ∀ l, f l = if l.val / 64 = p.val then max (x (ix2 a l)) (-(x (ix2 a l))) else 0)
    (y : FVec Ideal S32x128 .f32) (hy : ∀ l, y (ix2 a l) = f l) :
    rowMax y (ix2 a (0 : Fin 1))
      = Finset.univ.fold max ⊥ fun l : Fin 64 => max (x (ix2 a (⟨64 * p.val + l.val, by omega⟩ : Fin 128))) (-(x (ix2 a (⟨64 * p.val + l.val, by omega⟩ : Fin 128)))) := by
  unfold rowMax
  pointwise
  rw [negInf]
  have e : (fun k : Fin 128 => y (ix2 a k)) = f := funext hy
  refine (congrArg (Finset.fold max ⊥ · Finset.univ) e).trans ?_
  apply le_antisymm
  · rw [Finset.fold_max_le]
    refine ⟨bot_le, fun l _ => ?_⟩
    rw [Finset.le_fold_max, hf l]
    right
    by_cases h : l.val / 64 = p.val
    · refine ⟨⟨l.val % 64, by omega⟩, Finset.mem_univ _, ?_⟩
      rw [if_pos h]
      have : (⟨64 * p.val + l.val % 64, by omega⟩ : Fin 128) = l := Fin.ext (by show 64 * p.val + l.val % 64 = l.val; omega)
      rw [this]
    · rw [if_neg h]
      exact ⟨0, Finset.mem_univ _, abs_nonneg' _⟩
  · rw [Finset.fold_max_le]
    refine ⟨bot_le, fun l _ => ?_⟩
    rw [Finset.le_fold_max]
    right
    refine ⟨⟨64 * p.val + l.val, by omega⟩, Finset.mem_univ _, ?_⟩
    rw [hf, if_pos (by show (64 * p.val + l.val) / 64 = p.val; omega)]

theorem pick_apply (n : ℕ) (hn : n < 128) (m : FVec Ideal S32x1 .f32) (am : FVec Ideal S32x128 .f32) (a : Fin 32) (l : Fin 128) :
    pick n m am (ix2 a l) = if l.val = n then m (ix2 a (0 : Fin 1)) else am (ix2 a l) := by
  unfold pick
  rw [shapeCast_self]
  have h : cmpi .eq lane (broadcast S32x128 (BitVec.ofNat 32 n)) (ix2 a l) = BitVec.ofBool (decide (l = ⟨n, hn⟩)) := eq_table ⟨n, hn⟩ l
  have hb : broadcastTo S32x128 m broadcasts_S32x1_S32x128 (ix2 a l) = m (ix2 a (0 : Fin 1)) := by pointwise
  show Scalar.select (cmpi .eq lane (broadcast S32x128 (BitVec.ofNat 32 n)) (ix2 a l)) (broadcastTo S32x128 m broadcasts_S32x1_S32x128 (ix2 a l)) (am (ix2 a l)) = _
  rw [h, hb]
  by_cases e : l.val = n
  · rw [if_pos e, decide_eq_true (Fin.ext e : l = ⟨n, hn⟩)]; rfl
  · rw [if_neg e, decide_eq_false (fun q : l = ⟨n, hn⟩ => e (congrArg Fin.val q))]; rfl

theorem wide_eq (x : Vec Ideal S32x128 .bf16) : wide (F := Ideal) x = (x : FVec Ideal S32x128 .bf16) := by
  unfold wide; rw [shapeCast_self]; rfl

/-- Division, rounding and clipping at an entry. -/
theorem clip_apply (x sb : FVec Ideal S32x128 .f32) (i : S32x128.Idx) :
    minimumf (broadcast S32x128 (Scalar.sitofp .f32 7#32))
      (maximumf (broadcast S32x128 (Scalar.sitofp .f32 4294967288#32)) (roundeven (divf x sb))) i = Lowp.clip (Ideal.div (x i) (sb i)) := rfl

theorem deq_apply (q sb : FVec Ideal S32x128 .f32) (i : S32x128.Idx) :
    (mulf (truncf .bf16 q bitsLt_bf16_f32) (truncf .bf16 sb bitsLt_bf16_f32) : FVec Ideal S32x128 .bf16) i = q i * sb i := rfl

section
variable (xs : Fin 52 → Vec Ideal S32x128 .bf16) (rows : Fin 32 → Fin 6656 → EReal)
  (hx : ∀ (v : Fin 52) (a : Fin 32) (l : Fin 128), xs v (ix2 a l) = rows a ⟨128 * v.val + l.val, lane_lt v l⟩)
include hx

theorem rowMax_group (v : Fin 52) (p : Fin 2) (a : Fin 32) (y : FVec Ideal S32x128 .f32)
    (hy : ∀ l : Fin 128, y (ix2 a l) = if l.val / 64 = p.val then max (xs v (ix2 a l)) (-(xs v (ix2 a l))) else 0) :
    rowMax y (ix2 a (0 : Fin 1)) = Lowp.amax (rows a) ⟨2 * v.val + p.val, by omega⟩ := by
  refine (rowMax_half p first (xs v) a _ (fun _ => rfl) y hy).trans ?_
  unfold Lowp.amax
  refine congrArg (Finset.fold max ⊥ · Finset.univ) (funext fun l => ?_)
  have e := hx v a ⟨64 * p.val + l.val, by omega⟩
  have i : (⟨128 * v.val + (64 * p.val + l.val), by omega⟩ : Fin 6656) = ⟨64 * (2 * v.val + p.val) + l.val, by omega⟩ :=
    Fin.ext (by show 128 * v.val + (64 * p.val + l.val) = 64 * (2 * v.val + p.val) + l.val; omega)
  rw [e]
  show max (rows a ⟨128 * v.val + (64 * p.val + l.val), _⟩) (-(rows a ⟨128 * v.val + (64 * p.val + l.val), _⟩)) = _
  rw [i]

/-- After `n` lane vectors lanes `0 … 2 n - 1` hold the group maxima. -/
theorem amaxN_apply (n : ℕ) (hn : n ≤ 52) (a : Fin 32) (g : Fin 104) (hg : g.val < 2 * n) :
    amaxN xs n hn (ix2 a (⟨g.val, by omega⟩ : Fin 128)) = Lowp.amax (rows a) g := by
  induction n with
  | zero => omega
  | succ n ih =>
    show amaxStep n (xs ⟨n, hn⟩) (amaxN xs n (Nat.le_of_succ_le hn)) (ix2 a (⟨g.val, by omega⟩ : Fin 128)) = _
    unfold amaxStep
    rw [pick_apply _ (by omega), pick_apply _ (by omega)]
    rw [wide_eq]
    by_cases h1 : g.val = 2 * n + 1
    · rw [if_pos h1]
      refine (rowMax_group xs rows hx ⟨n, hn⟩ 1 a _ fun l => ?_).trans (congrArg _ (Fin.ext h1.symm))
      show Scalar.select (first (ix2 a l)) (Ideal.ofBits .f32 0x00000000#32) (max (xs ⟨n, hn⟩ (ix2 a l)) (-(xs ⟨n, hn⟩ (ix2 a l)))) = _
      rw [first_apply, Ideal.ofBits_zero_f32]
      by_cases h : l.val < 64
      · rw [decide_eq_true h, if_neg (by show ¬ l.val / 64 = 1; omega)]; rfl
      · rw [decide_eq_false h, if_pos (by show l.val / 64 = 1; omega)]; rfl
    · rw [if_neg h1]
      by_cases h0 : g.val = 2 * n
      · rw [if_pos h0]
        refine (rowMax_group xs rows hx ⟨n, hn⟩ 0 a _ fun l => ?_).trans (congrArg _ (Fin.ext h0.symm))
        show Scalar.select (first (ix2 a l)) (max (xs ⟨n, hn⟩ (ix2 a l)) (-(xs ⟨n, hn⟩ (ix2 a l)))) (Ideal.ofBits .f32 0x00000000#32) = _
        rw [first_apply, Ideal.ofBits_zero_f32]
        by_cases h : l.val < 64
        · rw [decide_eq_true h, if_pos (by show l.val / 64 = 0; omega)]; rfl
        · rw [decide_eq_false h, if_neg (by show ¬ l.val / 64 = 0; omega)]; rfl
      · rw [if_neg h0]
        exact ih (Nat.le_of_succ_le hn) (by omega)

/-- The scale in lane `g`. -/
theorem scales_apply (a : Fin 32) (g : Fin 104) : scales xs (ix2 a (⟨g.val, by omega⟩ : Fin 128)) = Lowp.scale (rows a) g := by
  have h := amaxN_apply xs rows hx 52 (Nat.le_refl 52) a g (by omega)
  show Scalar.select (Ideal.cmp .ogt (amaxN xs 52 _ _) (Ideal.ofBits .f32 0x00000000#32)) (Ideal.div (amaxN xs 52 _ _) _) _ = _
  rw [h, Ideal.ofBits_zero_f32]
  rfl

/-- The scale a lane is divided by. -/
theorem sbOf_apply (v : Fin 52) (a : Fin 32) (l : Fin 128) :
    sbOf v.val (scales xs) (ix2 a l) = Lowp.scale (rows a) ⟨2 * v.val + l.val / 64, by omega⟩ := by
  have hh : half (ix2 a l) = BitVec.ofNat 32 (l.val / 64) := half_table l
  have ht := wrap_table v ⟨l.val / 64, by omega⟩
  refine Eq.trans ?_ (scales_apply xs rows hx a ⟨2 * v.val + l.val / 64, by omega⟩)
  unfold sbOf wrap
  rw [shapeCast_shapeCast, dynamicGather_apply]
  congr 1
  funext b
  match b with
  | ⟨0, _⟩ => rfl
  | ⟨1, _⟩ =>
    refine Fin.ext ?_
    refine Eq.trans ?_ ht
    show (Scalar.select (IntOp.cmpi .slt (IntOp.addi _ (half (ix2 a l))) 0#32) (IntOp.addi (IntOp.addi _ (half (ix2 a l))) 128#32)
      (IntOp.addi _ (half (ix2 a l)))).toNat % 128 = _
    rw [hh]
    rfl

/-- The rounded quotient. -/
theorem qOf_apply (v : Fin 52) (a : Fin 32) (l : Fin 128) :
    qOf v.val (scales xs) (xs v) (ix2 a l) = Lowp.quant (rows a) ⟨128 * v.val + l.val, lane_lt v l⟩ := by
  unfold qOf
  rw [wide_eq, clip_apply, sbOf_apply xs rows hx, hx]
  unfold Lowp.quant
  refine congrArg Lowp.clip (congrArg (Ideal.div _) (congrArg _ (Fin.ext ?_)))
  show 2 * v.val + l.val / 64 = (128 * v.val + l.val) / 64
  omega

theorem xdOf_apply (v : Fin 52) (a : Fin 32) (l : Fin 128) :
    xdOf v.val (scales xs) (xs v) (ix2 a l) = Lowp.deq (rows a) ⟨128 * v.val + l.val, lane_lt v l⟩ := by
  unfold xdOf
  rw [deq_apply, qOf_apply xs rows hx, sbOf_apply xs rows hx]
  unfold Lowp.deq
  refine congrArg (Lowp.quant _ _ * ·) (congrArg _ (Fin.ext ?_))
  show 2 * v.val + l.val / 64 = (128 * v.val + l.val) / 64
  omega
end

/-! ### Packing -/

/-- A bit of the low nibbles. -/
theorem nibs_bit (q : FVec Ideal S32x128 .f32) (p : Fin 8) (l : Fin 128) (b : ℕ) (hb : b < 32) :
    (nibs q (ix2 p l)).getLsbD b
      = ((Ideal.fptosi 8 (q (ix2 (⟨4 * p.val + b / 8, by omega⟩ : Fin 32) l))).getLsbD (b % 8) && decide (b % 8 < 4)) := by
  show (IntOp.andi (bitcast S8x128 32 (fptosi 8 q : IVec S32x128 8) bitcasts_S32x128_w8_S8x128_w32 (ix2 p l)) 252645135#32).getLsbD b = _
  unfold IntOp.andi
  rw [BitVec.getLsbD_and, Lowp.mask_bit _ hb, ix2_eq_valueIdx, bitcast_8_32_getLsbD_ix2 _ _ p l b hb ⟨4 * p.val + b / 8, by omega⟩ rfl,
    ← ix2_eq_valueIdx]
  rfl

/-- A bit of a nibble joined with the next lane's. -/
theorem paired_bit (w : IVec S8x128 32) (p : Fin 8) (l : Fin 127) (b : ℕ) (hb : b < 32) :
    (paired w (ix2 p (⟨l.val, by omega⟩ : Fin 128))).getLsbD b
      = ((w (ix2 p (⟨l.val, by omega⟩ : Fin 128))).getLsbD b || (!decide (b < 4) && (w (ix2 p (⟨l.val + 1, by omega⟩ : Fin 128))).getLsbD (b - 4))) := by
  have hr : dynamicRotate 1 127#32 none w rotates_S8x128_d1 (ix2 p (⟨l.val, by omega⟩ : Fin 128)) = w (ix2 p (⟨l.val + 1, by omega⟩ : Fin 128)) := by
    refine dynamicRotate_apply (s := S8x128) 1 _ w _ _ _ fun c => ?_
    match c with
    | ⟨0, _⟩ => rfl
    | ⟨1, _⟩ => show l.val + 1 = (l.val + 128 - 127 % 128) % 128; omega
  show (IntOp.ori _ (IntOp.shli .vector (dynamicRotate 1 127#32 none w rotates_S8x128_d1 (ix2 p (⟨l.val, by omega⟩ : Fin 128))) 4#32)).getLsbD b = _
  rw [hr]
  unfold IntOp.ori IntOp.shli
  rw [if_pos (by decide), BitVec.getLsbD_or, BitVec.shiftLeft_eq', BitVec.getLsbD_shiftLeft]
  show (_ || (decide (b < 32) && !decide (b < 4) && _)) = _
  rw [decide_eq_true hb, Bool.true_and]
  rfl

theorem packOf_apply (v : ℕ) (sc : FVec Ideal S32x128 .f32) (x : Vec Ideal S32x128 .bf16) (p : Fin 8) (l : Fin 128) :
    packOf v sc x (ix2 p l) = paired (nibs (qOf v sc x)) (ix2 p (⟨2 * (l.val % 64), by omega⟩ : Fin 128)) := by
  have ht := even_table l
  unfold packOf wrap8
  rw [shapeCast_shapeCast, dynamicGather_apply]
  congr 1
  funext b
  match b with
  | ⟨0, _⟩ => rfl
  | ⟨1, _⟩ => exact Fin.ext ht

theorem join_bit (a b : BitVec 8) (q : ℕ) (hq : q < 8) :
    (Lowp.join a b).getLsbD q = if q < 4 then a.getLsbD q else b.getLsbD (q - 4) := by
  unfold Lowp.join
  rw [BitVec.getLsbD_or, BitVec.getLsbD_shiftLeft, BitVec.getLsbD_and, BitVec.getLsbD_and, Lowp.mask8_bit _ hq, Lowp.mask8_bit _ (by omega)]
  by_cases h : q < 4
  · simp [h]
  · simp [h, hq, show q - 4 < 4 by omega]

/-- The byte of row `a` in a joined word. -/
theorem byte_apply (q : FVec Ideal S32x128 .f32) (a : Fin 32) (l : Fin 127) (b : ℕ) (hb : b < 8) :
    (paired (nibs q) (ix2 (⟨a.val / 4, by omega⟩ : Fin 8) (⟨l.val, by omega⟩ : Fin 128))).getLsbD (8 * (a.val % 4) + b)
      = (Lowp.join (Ideal.fptosi 8 (q (ix2 a (⟨l.val, by omega⟩ : Fin 128)))) (Ideal.fptosi 8 (q (ix2 a (⟨l.val + 1, by omega⟩ : Fin 128))))).getLsbD b := by
  rw [paired_bit _ _ _ _ (by omega), nibs_bit _ _ _ _ (by omega), nibs_bit _ _ _ _ (by omega), join_bit _ _ _ hb]
  have e8 : (8 * (a.val % 4) + b) % 8 = b := by omega
  have er : (⟨4 * (a.val / 4) + (8 * (a.val % 4) + b) / 8, by omega⟩ : Fin 32) = a := Fin.ext (by show 4 * (a.val / 4) + (8 * (a.val % 4) + b) / 8 = a.val; omega)
  by_cases h : b < 4
  · have hz : (!decide (8 * (a.val % 4) + b < 4) && decide ((8 * (a.val % 4) + b - 4) % 8 < 4)) = false := by
      by_cases h' : 8 * (a.val % 4) + b < 4
      · simp [h']
      · rw [decide_eq_false (by omega : ¬ (8 * (a.val % 4) + b - 4) % 8 < 4), Bool.and_false]
    rw [if_pos h]
    simp only [e8]
    rw [er, decide_eq_true h, Bool.and_true, Bool.and_comm (Ideal.fptosi 8 _ |>.getLsbD _) (decide _), ← Bool.and_assoc, hz]
    simp
  · have er' : (⟨4 * (a.val / 4) + (8 * (a.val % 4) + b - 4) / 8, by omega⟩ : Fin 32) = a := Fin.ext (by show 4 * (a.val / 4) + (8 * (a.val % 4) + b - 4) / 8 = a.val; omega)
    rw [if_neg h]
    simp only [e8]
    rw [er', decide_eq_false h, Bool.and_false, Bool.false_or, decide_eq_false (by omega : ¬ 8 * (a.val % 4) + b < 4),
      show (8 * (a.val % 4) + b - 4) % 8 = b - 4 by omega, decide_eq_true (by omega : b - 4 < 4)]
    simp

theorem wfirst_table : ∀ l : Fin 128, cmpi .slt wlane (broadcast S8x128 64#32) (ix2 (0 : Fin 8) l) = BitVec.ofBool (decide (l.val < 64)) := by decide +kernel

theorem wfirst_apply (p : Fin 8) (l : Fin 128) : cmpi .slt wlane (broadcast S8x128 64#32) (ix2 p l) = BitVec.ofBool (decide (l.val < 64)) :=
  wfirst_table l

/-- A packed byte: the low nibbles of two neighbouring codes. -/
theorem codesOf_bytes (v w : ℕ) (sc : FVec Ideal S32x128 .f32) (x y : Vec Ideal S32x128 .bf16) (a : Fin 32) (l : Fin 128)
    (Q : FVec Ideal S32x128 .f32) (hQ : Q = if l.val < 64 then qOf v sc x else qOf w sc y) :
    codesOf v w sc x y (ix2 a l)
      = Lowp.join (Ideal.fptosi 8 (Q (ix2 a (⟨2 * (l.val % 64), by omega⟩ : Fin 128)))) (Ideal.fptosi 8 (Q (ix2 a (⟨2 * (l.val % 64) + 1, by omega⟩ : Fin 128)))) := by
  apply BitVec.eq_of_getLsbD_eq
  intro b hb
  refine Eq.trans ?_ (byte_apply Q a ⟨2 * (l.val % 64), by omega⟩ b hb)
  unfold codesOf
  rw [Lowp.bitcast_32_8_getLsbD_ix2 _ _ a l b hb ⟨a.val / 4, by omega⟩ rfl]
  refine congrArg (BitVec.getLsbD · _) ?_
  show Scalar.select (cmpi .slt wlane (broadcast S8x128 64#32) (ix2 _ l)) (packOf v sc x (ix2 _ l)) (packOf w sc y (ix2 _ l)) = _
  rw [wfirst_apply, packOf_apply, packOf_apply, hQ]
  by_cases h : l.val < 64
  · rw [decide_eq_true h, if_pos h]; rfl
  · rw [decide_eq_false h, if_neg h]; rfl

/-- The packed bytes of two neighbouring lane vectors, from the rows' entries. -/
theorem codesOf_apply (xs : Fin 52 → Vec Ideal S32x128 .bf16) (rows : Fin 32 → Fin 6656 → EReal)
    (hx : ∀ (v : Fin 52) (a : Fin 32) (l : Fin 128), xs v (ix2 a l) = rows a ⟨128 * v.val + l.val, lane_lt v l⟩)
    (h : Fin 26) (a : Fin 32) (l : Fin 128) :
    codesOf (2 * h.val) (2 * h.val + 1) (scales xs) (xs ⟨2 * h.val, fst_lt h⟩) (xs ⟨2 * h.val + 1, snd_lt h⟩) (ix2 a l)
      = Lowp.code (rows a) ⟨128 * h.val + l.val, lane_lt' h l⟩ := by
  have q0 := qOf_apply xs rows hx ⟨2 * h.val, by omega⟩ a
  have q1 := qOf_apply xs rows hx ⟨2 * h.val + 1, by omega⟩ a
  rw [codesOf_bytes _ _ _ _ _ _ _ _ rfl]
  unfold Lowp.code
  by_cases hl : l.val < 64
  · rw [if_pos hl, q0, q0]
    refine congrArg₂ Lowp.join (congrArg (fun i => Ideal.fptosi 8 (Lowp.quant (rows a) i)) (Fin.ext ?_)) (congrArg (fun i => Ideal.fptosi 8 (Lowp.quant (rows a) i)) (Fin.ext ?_))
    · show 128 * (2 * h.val) + 2 * (l.val % 64) = 2 * (128 * h.val + l.val); omega
    · show 128 * (2 * h.val) + (2 * (l.val % 64) + 1) = 2 * (128 * h.val + l.val) + 1; omega
  · rw [if_neg hl, q1, q1]
    refine congrArg₂ Lowp.join (congrArg (fun i => Ideal.fptosi 8 (Lowp.quant (rows a) i)) (Fin.ext ?_)) (congrArg (fun i => Ideal.fptosi 8 (Lowp.quant (rows a) i)) (Fin.ext ?_))
    · show 128 * (2 * h.val + 1) + 2 * (l.val % 64) = 2 * (128 * h.val + l.val); omega
    · show 128 * (2 * h.val + 1) + (2 * (l.val % 64) + 1) = 2 * (128 * h.val + l.val) + 1; omega

end Cert.KernelIdeal.Quant
-- ==== Proof.Products.lean ====
/- The kernel's matrix products read at an entry: the low-rank projection of the quantiser, and the main product with the
   low-rank correction. -/
module

public import proofs.«01_k».proof.Proof.Gen.KernelIdeal.Skeleton
public import Idealize.ShloMosaic.Lib.Pointwise

@[expose] public section

set_option maxRecDepth 16384

noncomputable section

namespace Cert.KernelIdeal.Products

open Idealize.ShloMosaic Idealize.ShloMosaic.TcCoe Idealize.SL.Sem
open Cert.KernelIdeal Cert.KernelIdeal.Gen

/-- The offset of a whole block. -/
theorem off_zero : (![0, 0] : Fin 2 → ℕ) = fun _ => 0 := by
  funext a; fin_cases a <;> rfl

theorem lora_apply (x : FVec Ideal S256x6656 .bf16) (w : FVec Ideal S6656x64 .bf16) (r : Fin 256) (k : Fin 64) :
    k0_pay4 x w (ix2 r k) = ∑ j : Fin 6656, x (ix2 r j) * w (ix2 j k) := by
  unfold k0_pay4
  rw [shapeCast_self]
  pointwise

theorem main_apply (x : FVec Ideal S1024x6656 .bf16) (w : FVec Ideal S6656x512 .bf16) (t : FVec Ideal S1024x64 .bf16)
    (l : FVec Ideal S64x512 .bf16) (r : Fin 1024) (k : Fin 512) :
    k2_pay1 x w t l (ix2 r k) = (∑ j : Fin 6656, x (ix2 r j) * w (ix2 j k)) + ∑ j : Fin 64, t (ix2 r j) * l (ix2 j k) := by
  unfold k2_pay1
  rw [shapeCast_self, shapeCast_self, shapeCast_self]
  pointwise

end Cert.KernelIdeal.Products
-- ==== Proof.QuantBlock.lean ====
/- What the quantiser leaves in its four output blocks, as functions of its two input blocks. -/
module

public import proofs.«01_k».proof.Proof.QuantTile
public import proofs.«01_k».proof.Proof.Products
public import Idealize.ShloMosaic.Lib.Pipeline.ValueKit

@[expose] public section

set_option maxRecDepth 16384

noncomputable section

namespace Cert.KernelIdeal.Quant

open Idealize.ShloMosaic Idealize.ShloMosaic.TcCoe Idealize.SL.Sem
open Cert.KernelIdeal Cert.KernelIdeal.Gen

/-- Row `r` of a block of activations. -/
def rowB (x0 : FVec Ideal S256x6656 .bf16) (r : Fin 256) (j : Fin 6656) : EReal := x0 (ix2 r j)

section Tile
variable (arg1 : Memref sig .tc .vmem S256x6656 .bf16) (X : BufTy.Contents (Elt Ideal) arg1.view.ty) (k : Fin k0_t1_loop.trips)

theorem row_lt (a : Fin 32) : 32 * k.val + a.val < 256 := by
  have hk := Nat.lt_of_lt_of_eq k.isLt trips_eq
  omega

/-- The rows of trip `k`. -/
def rowsOf (a : Fin 32) : Fin 6656 → EReal := rowB (arg1.view.read (Elt Ideal) X) ⟨32 * k.val + a.val, row_lt k a⟩

theorem xsOf_apply (v : Fin 52) (a : Fin 32) (l : Fin 128) :
    xsOf arg1 X k v (ix2 a l) = rowsOf arg1 X k a ⟨128 * v.val + l.val, lane_lt v l⟩ := by
  have hr := rowOf_eq' k
  unfold xsOf rowsOf rowB
  rw [View.readAt_eq_ld]
  refine View.ld_unit_apply_of _ _ _ _ _ _ fun c => ?_
  match c with
  | ⟨0, _⟩ => show 32 * k.val + a.val = rowOf k.val + a.val; omega
  | ⟨1, _⟩ => rfl

/-- The row a piece's entry lies in, from the entry's row in the tile. -/
theorem rowsOf_eq (a : Fin 32) (r : Fin 256) (h : r.val = rowOf k.val + a.val) :
    rowsOf arg1 X k a = rowB (arg1.view.read (Elt Ideal) X) r := by
  have hr := rowOf_eq' k
  unfold rowsOf
  refine congrArg _ (Fin.ext ?_)
  show 32 * k.val + a.val = r.val
  omega

theorem xd_piece (v : Fin 52) (x : (rectX k v).shape.Idx) :
    xdOf v.val (scales (xsOf arg1 X k)) (xsOf arg1 X k v) x
      = Lowp.deq (rowB (arg1.view.read (Elt Ideal) X) ((rectX k v).emb x 0)) ((rectX k v).emb x 1) := by
  obtain ⟨a, l, rfl⟩ : ∃ (a : Fin 32) (l : Fin 128), x = ix2 a l := ⟨x 0, x 1, eq_ix2 x⟩
  have e0 : ((rectX k v).emb (ix2 a l) 0).val = rowOf k.val + a.val := Rect.idx_unit_val _ _ _ _ _
  have e1 : ((rectX k v).emb (ix2 a l) 1).val = 128 * v.val + l.val := Rect.idx_unit_val _ _ _ _ _
  refine (xdOf_apply (xsOf arg1 X k) (rowsOf arg1 X k) (xsOf_apply arg1 X k) v a l).trans ?_
  rw [rowsOf_eq arg1 X k a _ e0]
  exact congrArg _ (Fin.ext e1.symm)

theorem code_piece (h : Fin 26) (x : (rectC k h).shape.Idx) :
    codesOf (2 * h.val) (2 * h.val + 1) (scales (xsOf arg1 X k)) (xsOf arg1 X k ⟨2 * h.val, fst_lt h⟩)
        (xsOf arg1 X k ⟨2 * h.val + 1, snd_lt h⟩) x
      = Lowp.code (rowB (arg1.view.read (Elt Ideal) X) ((rectC k h).emb x 0)) ((rectC k h).emb x 1) := by
  obtain ⟨a, l, rfl⟩ : ∃ (a : Fin 32) (l : Fin 128), x = ix2 a l := ⟨x 0, x 1, eq_ix2 x⟩
  have e0 : ((rectC k h).emb (ix2 a l) 0).val = rowOf k.val + a.val := Rect.idx_unit_val _ _ _ _ _
  have e1 : ((rectC k h).emb (ix2 a l) 1).val = 128 * h.val + l.val := Rect.idx_unit_val _ _ _ _ _
  refine (codesOf_apply (xsOf arg1 X k) (rowsOf arg1 X k) (xsOf_apply arg1 X k) h a l).trans ?_
  rw [rowsOf_eq arg1 X k a _ e0]
  exact congrArg _ (Fin.ext e1.symm)

theorem scale_piece (x : (rectS k).shape.Idx) :
    extractStridedSlice S32x104 ![0, 0] (scales (xsOf arg1 X k)) slices_S32x128_o0_0_S32x104 x
      = Lowp.scale (rowB (arg1.view.read (Elt Ideal) X) ((rectS k).emb x 0)) ((rectS k).emb x 1) := by
  obtain ⟨a, g, rfl⟩ : ∃ (a : Fin 32) (g : Fin 104), x = ix2 a g := ⟨x 0, x 1, eq_ix2 x⟩
  have e0 : ((rectS k).emb (ix2 a g) 0).val = rowOf k.val + a.val := Rect.idx_unit_val _ _ _ _ _
  have e1 : ((rectS k).emb (ix2 a g) 1).val = 0 + g.val := Rect.idx_unit_val _ _ _ _ _
  have e : extractStridedSlice S32x104 ![0, 0] (scales (xsOf arg1 X k)) slices_S32x128_o0_0_S32x104 (ix2 a g)
      = scales (xsOf arg1 X k) (ix2 a (⟨g.val, by omega⟩ : Fin 128)) := by
    pointwise
  refine e.trans ((scales_apply (xsOf arg1 X k) (rowsOf arg1 X k) (xsOf_apply arg1 X k) a g).trans ?_)
  rw [rowsOf_eq arg1 X k a _ e0]
  exact congrArg _ (Fin.ext (by show g.val = _; omega))

end Tile

section
variable (c : Dev nD) (i : grid0.Coords) (arg1 : Memref sig .tc .vmem S256x6656 .bf16) (harg1 : arg1.IsWhole) (arg2 : Memref sig .tc .vmem S6656x64 .bf16) (harg2 : arg2.IsWhole) (arg3 : Memref sig .tc .vmem S256x6656 .bf16) (harg3 : arg3.IsWhole) (arg4 : Memref sig .tc .vmem S256x3328 .i8) (harg4 : arg4.IsWhole) (arg5 : Memref sig .tc .vmem S256x104 .f32) (harg5 : arg5.IsWhole) (arg6 : Memref sig .tc .vmem S256x64 .bf16) (harg6 : arg6.IsWhole)

/-- Every piece the loop stores is a tile of the dequantised activations, of the codes, or of the scales. -/
theorem pieces (𝒱 : Variants) (bd : Option 𝒱.V) (X : BufTy.Contents (Elt Ideal) arg1.view.ty) (n : ℕ) (hn : n ≤ k0_t1_loop.trips) :
    (∀ p ∈ (pb_k0_t1 𝒱 c bd i arg1 harg1 arg2 harg2 arg3 harg3 arg4 harg4 arg5 harg5 arg6 harg6 X n).1, ∀ x : p.1.shape.Idx,
      p.2 x = Lowp.deq (rowB (arg1.view.read (Elt Ideal) X) (p.1.emb x 0)) (p.1.emb x 1))
    ∧ (∀ p ∈ (pb_k0_t1 𝒱 c bd i arg1 harg1 arg2 harg2 arg3 harg3 arg4 harg4 arg5 harg5 arg6 harg6 X n).2.1, ∀ x : p.1.shape.Idx,
      p.2 x = Lowp.code (rowB (arg1.view.read (Elt Ideal) X) (p.1.emb x 0)) (p.1.emb x 1))
    ∧ (∀ p ∈ (pb_k0_t1 𝒱 c bd i arg1 harg1 arg2 harg2 arg3 harg3 arg4 harg4 arg5 harg5 arg6 harg6 X n).2.2, ∀ x : p.1.shape.Idx,
      p.2 x = Lowp.scale (rowB (arg1.view.read (Elt Ideal) X) (p.1.emb x 0)) (p.1.emb x 1)) := by
  induction n with
  | zero => exact ⟨fun p hp => absurd hp List.not_mem_nil, fun p hp => absurd hp List.not_mem_nil, fun p hp => absurd hp List.not_mem_nil⟩
  | succ n ih =>
    obtain ⟨ih1, ih2, ih3⟩ := ih (Nat.le_of_succ_le hn)
    rw [pb_k0_t1_succ 𝒱 c bd i arg1 harg1 arg2 harg2 arg3 harg3 arg4 harg4 arg5 harg5 arg6 harg6 X ⟨n, hn⟩]
    dsimp only
    refine ⟨fun p hp => ?_, fun p hp => ?_, fun p hp => ?_⟩
    · rcases List.mem_append.1 hp with hp | hp
      · rw [trip_xd] at hp
        obtain ⟨v, _, rfl⟩ := List.mem_map.1 hp
        exact xd_piece arg1 X ⟨n, hn⟩ v
      · exact ih1 p hp
    · rcases List.mem_append.1 hp with hp | hp
      · rw [trip_codes] at hp
        obtain ⟨h, _, rfl⟩ := List.mem_map.1 hp
        exact code_piece arg1 X ⟨n, hn⟩ h
      · exact ih2 p hp
    · rcases List.mem_append.1 hp with hp | hp
      · rw [trip_scale] at hp
        obtain rfl := List.mem_singleton.1 hp
        exact scale_piece arg1 X ⟨n, hn⟩
      · exact ih3 p hp

variable (x0 : Vec Ideal S256x6656 .bf16) (x1 : Vec Ideal S6656x64 .bf16)

/-- The block of dequantised activations. -/
theorem out0_2_eq (y : S256x6656.Idx) :
    out0_A_2 c i arg1 harg1 arg2 harg2 arg3 harg3 arg4 harg4 arg5 harg5 arg6 harg6 x0 x1 y = Lowp.deq (rowB x0 (y 0)) (y 1) := by
  unfold out0_A_2
  refine View.read_writes_apply_of_pieces VO0_2 VO0_2.junk (fun z : S256x6656.Idx => Lowp.deq (rowB x0 (z 0)) (z 1)) _ ?_ y
    (cover0_A_2 c i arg1 harg1 arg2 harg2 arg3 harg3 arg4 harg4 arg5 harg5 arg6 harg6 x0 x1 y)
  unfold kernelRun0_A
  dsimp only
  have h := pieces c i arg1 harg1 arg2 harg2 arg3 harg3 arg4 harg4 arg5 harg5 arg6 harg6 Variants.none none (harg1.unread x0) _ (Nat.le_refl _)
  rw [harg1.read_unread] at h
  intro p hp
  exact h.1 p (by simpa using hp)

/-- The block of packed codes. -/
theorem out0_3_eq (y : S256x3328.Idx) :
    out0_A_3 c i arg1 harg1 arg2 harg2 arg3 harg3 arg4 harg4 arg5 harg5 arg6 harg6 x0 x1 y = Lowp.code (rowB x0 (y 0)) (y 1) := by
  unfold out0_A_3
  refine View.read_writes_apply_of_pieces VO0_3 VO0_3.junk (fun z : S256x3328.Idx => Lowp.code (rowB x0 (z 0)) (z 1)) _ ?_ y
    (cover0_A_3 c i arg1 harg1 arg2 harg2 arg3 harg3 arg4 harg4 arg5 harg5 arg6 harg6 x0 x1 y)
  unfold kernelRun0_A
  dsimp only
  have h := pieces c i arg1 harg1 arg2 harg2 arg3 harg3 arg4 harg4 arg5 harg5 arg6 harg6 Variants.none none (harg1.unread x0) _ (Nat.le_refl _)
  rw [harg1.read_unread] at h
  intro p hp
  exact h.2.1 p (by simpa using hp)

/-- The block of scales. -/
theorem out0_4_eq (y : S256x104.Idx) :
    out0_A_4 c i arg1 harg1 arg2 harg2 arg3 harg3 arg4 harg4 arg5 harg5 arg6 harg6 x0 x1 y = Lowp.scale (rowB x0 (y 0)) (y 1) := by
  unfold out0_A_4
  refine View.read_writes_apply_of_pieces VO0_4 VO0_4.junk (fun z : S256x104.Idx => Lowp.scale (rowB x0 (z 0)) (z 1)) _ ?_ y
    (cover0_A_4 c i arg1 harg1 arg2 harg2 arg3 harg3 arg4 harg4 arg5 harg5 arg6 harg6 x0 x1 y)
  unfold kernelRun0_A
  dsimp only
  have h := pieces c i arg1 harg1 arg2 harg2 arg3 harg3 arg4 harg4 arg5 harg5 arg6 harg6 Variants.none none (harg1.unread x0) _ (Nat.le_refl _)
  rw [harg1.read_unread] at h
  intro p hp
  exact h.2.2 p (by simpa using hp)

/-- The block of low-rank projections. -/
theorem out0_5_eq (y : S256x64.Idx) :
    out0_A_5 c i arg1 harg1 arg2 harg2 arg3 harg3 arg4 harg4 arg5 harg5 arg6 harg6 x0 x1 y
      = Lowp.lora (rowB x0 (y 0)) (fun j r => x1 (ix2 j r)) (y 1) := by
  unfold out0_A_5
  refine View.read_writes_apply_of_pieces VO0_5 VO0_5.junk (fun z : S256x64.Idx => Lowp.lora (rowB x0 (z 0)) (fun j r => x1 (ix2 j r)) (z 1)) _ ?_ y
    (cover0_A_5 c i arg1 harg1 arg2 harg2 arg3 harg3 arg4 harg4 arg5 harg5 arg6 harg6 x0 x1 y)
  unfold kernelRun0_A
  dsimp only
  intro p hp
  obtain rfl := List.mem_singleton.1 hp
  intro x
  obtain ⟨r, k, rfl⟩ : ∃ (r : Fin 256) (k : Fin 64), x = ix2 r k := ⟨x 0, x 1, eq_ix2 x⟩
  dsimp only
  rw [View.readAt_eq_ld, View.readAt_eq_ld, harg1.read_unread, harg2.read_unread]
  rw [View.ld_unit_zero Products.off_zero, View.ld_unit_zero Products.off_zero]
  refine (Products.lora_apply _ _ r k).trans ?_
  have e0 : (Rect.unit (s := S256x64) ![0, 0] S256x64.size inb_S256x64_S256x64_0_0).emb (ix2 r k) 0 = r :=
    Fin.ext ((Rect.idx_unit_val _ _ _ _ _).trans (Nat.zero_add _))
  have e1 : (Rect.unit (s := S256x64) ![0, 0] S256x64.size inb_S256x64_S256x64_0_0).emb (ix2 r k) 1 = k :=
    Fin.ext ((Rect.idx_unit_val _ _ _ _ _).trans (Nat.zero_add _))
  rw [e0, e1]
  rfl
end

end Cert.KernelIdeal.Quant
-- ==== Proof.Region0.lean ====
/- The quantiser's four result arrays, as functions of the activations and of the first low-rank factor. -/
module

public import proofs.«01_k».proof.Proof.QuantBlock
public import proofs.«01_k».proof.Proof.Gen.KernelIdeal.Frame

@[expose] public section

set_option maxRecDepth 16384

noncomputable section

namespace Cert.KernelIdeal.Region0

open Idealize.ShloMosaic Idealize.ShloMosaic.TcCoe Idealize.SL.Sem
open Cert.KernelIdeal Cert.KernelIdeal.Gen Cert.KernelIdeal.Quant

/-- Row `r` of the activations. -/
def rowA (x : FVec Ideal S16384x6656 .bf16) (r : Fin 16384) (j : Fin 6656) : EReal := x (ix2 r j)

variable (V : (c : Dev nD) → (b : Ref sig .tc) → Buf (Elt Ideal) ((c : Thread nD τ).loc b))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- Row `a` of block `t` is row `256 t + a` of the activations. -/
theorem row_eq (c : Dev nD) (t : Fin cfg0.N) (a : Fin 256) (r : Fin 16384) (h : r.val = t.val * 256 + a.val) :
    rowB (iblk0 V c 0 t) a = rowA (V c main_v0) r := by
  funext j
  unfold rowB rowA
  blk_simp [iblk0]
  congr 1
  blk_ext [idx0]

/-- The first low-rank factor is read whole at every point. -/
theorem l1_eq (c : Dev nD) (t : Fin cfg0.N) (i : S6656x64.Idx) : iblk0 V c 1 t i = V c main_arg4 i := by
  blk_simp [iblk0]
  congr 1
  blk_ext [idx1]

/-- The dequantised activations. -/
theorem arr2 (c : Dev nD) : (dat0 V c).arrAt 2 cfg0.N
    = fun i : S16384x6656.Idx => Lowp.deq (rowA (V c main_v0) (i 0)) (i 1) := by
  refine (dat0 V c).arrAt_eq_of_covers 2 _ (by decide +kernel) fun t hf y => ?_
  have h0 : (((win0_2.blk t).view.emb y : S16384x6656.Idx) 0).val = t.val * 256 + ((y : S256x6656.Idx) 0).val := by blk_simp [idx2]
  have h1 : (((win0_2.blk t).view.emb y : S16384x6656.Idx) 1).val = ((y : S256x6656.Idx) 1).val := by blk_simp [idx2]
  blk_simp
  rw [after0_2]
  unfold outsAt0
  dsimp only
  rw [out0_2_eq, row_eq V c t _ _ h0]
  exact congrArg _ (Fin.ext h1.symm)

/-- The packed codes. -/
theorem arr3 (c : Dev nD) : (dat0 V c).arrAt 3 cfg0.N
    = fun i : S16384x3328.Idx => Lowp.code (rowA (V c main_v0) (i 0)) (i 1) := by
  refine (dat0 V c).arrAt_eq_of_covers 3 _ (by decide +kernel) fun t hf y => ?_
  have h0 : (((win0_3.blk t).view.emb y : S16384x3328.Idx) 0).val = t.val * 256 + ((y : S256x3328.Idx) 0).val := by blk_simp [idx3]
  have h1 : (((win0_3.blk t).view.emb y : S16384x3328.Idx) 1).val = ((y : S256x3328.Idx) 1).val := by blk_simp [idx3]
  blk_simp
  rw [after0_3]
  unfold outsAt0
  dsimp only
  rw [out0_3_eq, row_eq V c t _ _ h0]
  exact congrArg _ (Fin.ext h1.symm)

/-- The scales. -/
theorem arr4 (c : Dev nD) : (dat0 V c).arrAt 4 cfg0.N
    = fun i : S16384x104.Idx => Lowp.scale (rowA (V c main_v0) (i 0)) (i 1) := by
  refine (dat0 V c).arrAt_eq_of_covers 4 _ (by decide +kernel) fun t hf y => ?_
  have h0 : (((win0_4.blk t).view.emb y : S16384x104.Idx) 0).val = t.val * 256 + ((y : S256x104.Idx) 0).val := by blk_simp [idx4]
  have h1 : (((win0_4.blk t).view.emb y : S16384x104.Idx) 1).val = ((y : S256x104.Idx) 1).val := by blk_simp [idx4]
  blk_simp
  rw [after0_4]
  unfold outsAt0
  dsimp only
  rw [out0_4_eq, row_eq V c t _ _ h0]
  exact congrArg _ (Fin.ext h1.symm)

/-- The low-rank projections. -/
theorem arr5 (c : Dev nD) : (dat0 V c).arrAt 5 cfg0.N
    = fun i : S16384x64.Idx => Lowp.lora (rowA (V c main_v0) (i 0)) (fun j r => V c main_arg4 (ix2 j r)) (i 1) := by
  refine (dat0 V c).arrAt_eq_of_covers 5 _ (by decide +kernel) fun t hf y => ?_
  have h0 : (((win0_5.blk t).view.emb y : S16384x64.Idx) 0).val = t.val * 256 + ((y : S256x64.Idx) 0).val := by blk_simp [idx5]
  have h1 : (((win0_5.blk t).view.emb y : S16384x64.Idx) 1).val = ((y : S256x64.Idx) 1).val := by blk_simp [idx5]
  blk_simp
  rw [after0_5]
  unfold outsAt0
  dsimp only
  rw [out0_5_eq, row_eq V c t _ _ h0]
  have hl : (fun (j : Fin 6656) (r : Fin 64) => iblk0 V c 1 t (ix2 j r)) = fun j r => V c main_arg4 (ix2 j r) := by
    funext j r
    exact l1_eq V c t _
  exact (congrArg (fun l => Lowp.lora _ l _) hl).trans (congrArg _ (Fin.ext h1.symm))

end Cert.KernelIdeal.Region0
-- ==== Proof.DequantModel.lean ====
/- What one trip of the weight dequantiser's loop stores, written once for a symbolic half `h` of the 256 columns a
   packed tile stands for. The trip's four found pieces are this function at the two tiles and the two halves, by
   unfolding. -/
module

public import proofs.«01_k».proof.Proof.Gen.KernelIdeal.Frame

@[expose] public section

set_option maxRecDepth 16384

noncomputable section

namespace Cert.KernelIdeal.Dequant

open Idealize.ShloMosaic Idealize.ShloMosaic.TcCoe Idealize.SL.Sem
open Cert.KernelIdeal Cert.KernelIdeal.Gen

variable {F : FTy → Type} [FloatOps F]

/-- The lane number. -/
def lane : IVec S128x128 32 := iota .tc S128x128 32 [1] iota_S128x128_d1_w32

/-- The bit shift of the nibble a lane takes: 0 for an even lane, 4 for an odd one. -/
def shift : IVec S128x128 32 := muli (andi lane (broadcast S128x128 1#32)) (broadcast S128x128 4#32)

/-- The lane number over 2, as the printed floor division spells it. -/
def halved : IVec S128x128 32 :=
  select
    (andi
      (cmpi .ne (subi (extui 32 (cmpi .sgt lane (broadcast S128x128 0#32)) natLt_1_32) (extui 32 (cmpi .slt lane (broadcast S128x128 0#32)) natLt_1_32))
        (broadcast S128x128 (Scalar.subi (Scalar.extui (Scalar.cmpi .sgt 2#32 0#32)) (Scalar.extui (Scalar.cmpi .slt 2#32 0#32)))))
      (cmpi .ne (remsi lane (broadcast S128x128 2#32)) (broadcast S128x128 0#32)))
    (subi (divsi lane (broadcast S128x128 2#32)) (broadcast S128x128 1#32))
    (divsi lane (broadcast S128x128 2#32))

def wrap (i : IVec S128x128 32) : IVec S128x128 32 :=
  shapeCast S128x128 (shapeCast S128x128x1 (select (cmpi .slt i (broadcast S128x128 0#32)) (addi i (broadcast S128x128 128#32)) i)
    shapeCasts_S128x128_S128x128x1) shapeCasts_S128x128x1_S128x128

/-- The nibbles of half `h` of the columns of a packed tile. -/
def nibs (h : Fin 2) (x : Vec F S512x128 .i8) : IVec S512x128 8 :=
  bitcast S512x128 8
    (andi (shrui (dynamicGather 1 (bitcast S128x128 32 (x : IVec S512x128 8) bitcasts_S512x128_w8_S128x128_w32)
        (wrap (addi (broadcast S128x128 (BitVec.ofNat 32 (64 * h.val))) halved))) shift) (broadcast S128x128 252645135#32))
    bitcasts_S128x128_w32_S512x128_w8

theorem slices_row (g : Fin 8) (h : Fin 2) : S8x256.Slices ![g.val, 128 * h.val] S1x128 := by revert g h; decide +kernel
theorem slices_part (g : Fin 8) : S512x128.Slices ![64 * g.val, 0] S64x128 := by revert g; decide +kernel

/-- Row `g` of a tile of zeros or scales, half `h`, repeated down the 64 rows of a group. -/
def rows (g : Fin 8) (h : Fin 2) (z : FVec F S8x256 .f32) : FVec F S64x128 .bf16 :=
  truncf .bf16 (broadcastTo S64x128 (shapeCast S1x128 (extractStridedSlice S1x128 ![g.val, 128 * h.val] z (slices_row g h))
    shapeCasts_S1x128_S1x128) broadcasts_S1x128_S64x128) bitsLt_bf16_f32

/-- Group `g` of the dequantised half tile. -/
def part (h : Fin 2) (x : Vec F S512x128 .i8) (z s : Vec F S8x256 .f32) (g : Fin 8) : FVec F S64x128 .bf16 :=
  mulf (subf (extractStridedSlice S64x128 ![64 * g.val, 0] (sitofp .bf16 (nibs h x) : FVec F S512x128 .bf16) (slices_part g))
    (rows g h (shapeCast S8x256 z shapeCasts_S8x256_S8x256))) (rows g h s)

/-- The dequantised half tile. -/
def wdOf (h : Fin 2) (x : Vec F S512x128 .i8) (z s : Vec F S8x256 .f32) : FVec F S512x128 .bf16 :=
  concatenate S512x128 0 [⟨S64x128, part h x z s 0⟩, ⟨S64x128, part h x z s 1⟩, ⟨S64x128, part h x z s 2⟩, ⟨S64x128, part h x z s 3⟩,
      ⟨S64x128, part h x z s 4⟩, ⟨S64x128, part h x z s 5⟩, ⟨S64x128, part h x z s 6⟩, ⟨S64x128, part h x z s 7⟩]
    concatenates_S64x128_S64x128_S64x128_S64x128_S64x128_S64x128_S64x128_S64x128_S512x128_d0

/-- The first packed row of trip `k`, and its first group, as the program computes them. -/
def rowOf (k : ℕ) : ℕ := (Scalar.indexCast (Scalar.muli (Scf.iv 0#32 1#32 k) 512#32)).toNat
def grpOf (k : ℕ) : ℕ := (Scalar.indexCast (Scalar.muli (Scf.iv 0#32 1#32 k) 8#32)).toNat

theorem rowOf_eq : ∀ k : Fin 13, rowOf k.val = 512 * k.val := by decide +kernel
theorem grpOf_eq : ∀ k : Fin 13, grpOf k.val = 8 * k.val := by decide +kernel
theorem trips_eq : k1_t1_loop.trips = 13 := by decide +kernel

theorem rowOf_eq' (k : Fin k1_t1_loop.trips) : rowOf k.val = 512 * k.val :=
  rowOf_eq ⟨k.val, Nat.lt_of_lt_of_eq k.isLt trips_eq⟩
theorem grpOf_eq' (k : Fin k1_t1_loop.trips) : grpOf k.val = 8 * k.val :=
  grpOf_eq ⟨k.val, Nat.lt_of_lt_of_eq k.isLt trips_eq⟩

theorem inb_w (k : Fin k1_t1_loop.trips) (u : Fin 4) :
    ∀ a : Fin 2, (![rowOf k.val, 128 * u.val] : Fin 2 → ℕ) a + S512x128.size a ≤ S6656x512.size a := by
  have hk := Nat.lt_of_lt_of_eq k.isLt trips_eq
  have hr := rowOf_eq' k
  intro a; fin_cases a
  · show rowOf k.val + 512 ≤ 6656; omega
  · show 128 * u.val + 128 ≤ 512; omega

theorem inb_p (k : Fin k1_t1_loop.trips) (j : Fin 2) :
    ∀ a : Fin 2, (![rowOf k.val, 128 * j.val] : Fin 2 → ℕ) a + S512x128.size a ≤ S6656x256.size a := by
  have hk := Nat.lt_of_lt_of_eq k.isLt trips_eq
  have hr := rowOf_eq' k
  intro a; fin_cases a
  · show rowOf k.val + 512 ≤ 6656; omega
  · show 128 * j.val + 128 ≤ 256; omega

theorem inb_z (k : Fin k1_t1_loop.trips) (j : Fin 2) :
    ∀ a : Fin 2, (![grpOf k.val, 256 * j.val] : Fin 2 → ℕ) a + S8x256.size a ≤ S104x512.size a := by
  have hk := Nat.lt_of_lt_of_eq k.isLt trips_eq
  have hr := grpOf_eq' k
  intro a; fin_cases a
  · show grpOf k.val + 8 ≤ 104; omega
  · show 256 * j.val + 256 ≤ 512; omega

/-- The stored tile, the packed tile and the tile of zeros and scales of trip `k`. -/
abbrev rectW (k : Fin k1_t1_loop.trips) (u : Fin 4) : Rect S6656x512 :=
  Rect.unit (s := S6656x512) ![rowOf k.val, 128 * u.val] S512x128.size (inb_w k u)
abbrev rectP (k : Fin k1_t1_loop.trips) (j : Fin 2) : Rect S6656x256 :=
  Rect.unit (s := S6656x256) ![rowOf k.val, 128 * j.val] S512x128.size (inb_p k j)
abbrev rectZ (k : Fin k1_t1_loop.trips) (j : Fin 2) : Rect S104x512 :=
  Rect.unit (s := S104x512) ![grpOf k.val, 256 * j.val] S8x256.size (inb_z k j)

/-- What is stored into tile `u = 2 j + h`. -/
def wdAt (arg1 : Memref sig .tc .vmem S6656x256 .i8) (arg2 arg3 : Memref sig .tc .vmem S104x512 .f32)
    (X1 : BufTy.Contents (Elt F) arg1.view.ty) (X2 : BufTy.Contents (Elt F) arg2.view.ty) (X3 : BufTy.Contents (Elt F) arg3.view.ty)
    (k : Fin k1_t1_loop.trips) (u : Fin 4) (j h : Fin 2) : View.Piece (Elt F) S6656x512 .bf16 :=
  ⟨rectW k u, wdOf h (View.readAt (Elt F) arg1.view (rectP k j).toLoadRect X1)
    (View.readAt (Elt F) arg2.view (rectZ k j).toLoadRect X2) (View.readAt (Elt F) arg3.view (rectZ k j).toLoadRect X3)⟩

theorem trip_wd (𝒱 : Variants) (c : Dev nD) (bd : Option 𝒱.V) (i : grid1.Coords)
    (arg1 : Memref sig .tc .vmem S6656x256 .i8) (harg1 : arg1.IsWhole) (arg2 : Memref sig .tc .vmem S104x512 .f32) (harg2 : arg2.IsWhole)
    (arg3 : Memref sig .tc .vmem S104x512 .f32) (harg3 : arg3.IsWhole) (arg4 : Memref sig .tc .vmem S6656x512 .bf16) (harg4 : arg4.IsWhole)
    (X1 : BufTy.Contents (Elt F) arg1.view.ty) (X2 : BufTy.Contents (Elt F) arg2.view.ty) (X3 : BufTy.Contents (Elt F) arg3.view.ty)
    (k : Fin k1_t1_loop.trips) :
    (trip_k1_t1 𝒱 c bd i arg1 harg1 arg2 harg2 arg3 harg3 arg4 harg4 X1 X2 X3 k).1
      = [wdAt arg1 arg2 arg3 X1 X2 X3 k 3 1 1, wdAt arg1 arg2 arg3 X1 X2 X3 k 2 1 0,
         wdAt arg1 arg2 arg3 X1 X2 X3 k 1 0 1, wdAt arg1 arg2 arg3 X1 X2 X3 k 0 0 0] := by
  unfold trip_k1_t1
  dsimp only
  rfl

end Cert.KernelIdeal.Dequant
-- ==== Proof.DequantTile.lean ====
/- The dequantiser's stored tile read at an entry: nibble minus zero point, times scale. -/
module

public import proofs.«01_k».proof.Proof.DequantModel
public import proofs.«01_k».proof.Proof.Spec
public import Idealize.ShloMosaic.Lib.Pointwise.IndexBridge

@[expose] public section

set_option maxRecDepth 16384

noncomputable section

namespace Cert.KernelIdeal.Dequant

open Idealize.ShloMosaic Idealize.ShloMosaic.TcCoe Idealize.SL.Sem
open Cert.KernelIdeal Cert.KernelIdeal.Gen

theorem shift_table : ∀ l : Fin 128, shift (ix2 (0 : Fin 128) l) = BitVec.ofNat 32 (4 * (l.val % 2)) := by decide +kernel

theorem halved_table : ∀ l : Fin 128, halved (ix2 (0 : Fin 128) l) = BitVec.ofNat 32 (l.val / 2) := by decide +kernel

theorem wrap_table : ∀ h : Fin 2, ∀ l : Fin 64,
    (Scalar.select (IntOp.cmpi .slt (IntOp.addi (BitVec.ofNat 32 (64 * h.val)) (BitVec.ofNat 32 l.val)) 0#32)
      (IntOp.addi (IntOp.addi (BitVec.ofNat 32 (64 * h.val)) (BitVec.ofNat 32 l.val)) 128#32)
      (IntOp.addi (BitVec.ofNat 32 (64 * h.val)) (BitVec.ofNat 32 l.val))).toNat % 128 = 64 * h.val + l.val := by decide +kernel

/-- The packed byte a lane is read from. -/
abbrev src (h : Fin 2) (l : Fin 128) : Fin 128 := ⟨64 * h.val + l.val / 2, by omega⟩

theorem gather_apply (h : Fin 2) (x : IVec S128x128 32) (a : Fin 128) (l : Fin 128) :
    dynamicGather 1 x (wrap (addi (broadcast S128x128 (BitVec.ofNat 32 (64 * h.val))) halved)) (ix2 a l) = x (ix2 a (src h l)) := by
  have hh : halved (ix2 a l) = BitVec.ofNat 32 (l.val / 2) := halved_table l
  have ht := wrap_table h ⟨l.val / 2, by omega⟩
  unfold wrap
  rw [shapeCast_shapeCast]
  rw [dynamicGather_apply]
  congr 1
  funext b
  match b with
  | ⟨0, _⟩ => rfl
  | ⟨1, _⟩ =>
    refine Fin.ext ?_
    refine Eq.trans ?_ ht
    show (Scalar.select (IntOp.cmpi .slt (IntOp.addi _ (halved (ix2 a l))) 0#32) (IntOp.addi (IntOp.addi _ (halved (ix2 a l))) 128#32)
      (IntOp.addi _ (halved (ix2 a l)))).toNat % 128 = _
    rw [hh]
    rfl

/-- The byte stored for a lane is the nibble of its parity of the byte it is read from. -/
theorem nibs_apply (h : Fin 2) (x : IVec S512x128 8) (a : Fin 512) (l : Fin 128) :
    nibs (F := Ideal) h x (ix2 a l) = (x (ix2 a (src h l)) >>> (4 * (l.val % 2))) &&& 15#8 := by
  apply BitVec.eq_of_getLsbD_eq
  intro q hq
  unfold nibs
  rw [Lowp.bitcast_32_8_getLsbD_ix2 _ _ a l q hq ⟨a.val / 4, by omega⟩ rfl]
  have hs : shift (ix2 (⟨a.val / 4, by omega⟩ : Fin 128) l) = BitVec.ofNat 32 (4 * (l.val % 2)) := shift_table l
  show (IntOp.andi (IntOp.shrui .vector (dynamicGather 1 _ _ (ix2 _ l)) (shift (ix2 _ l))) 252645135#32).getLsbD _ = _
  rw [gather_apply, hs]
  have hn : (BitVec.ofNat 32 (4 * (l.val % 2))).toNat = 4 * (l.val % 2) := by
    rw [BitVec.toNat_ofNat]; omega
  unfold IntOp.andi IntOp.shrui
  rw [if_pos (by rw [hn]; omega), BitVec.getLsbD_and, BitVec.getLsbD_and, Lowp.mask_bit _ (by omega), Lowp.mask8_bit _ hq,
    BitVec.ushiftRight_eq', hn, BitVec.getLsbD_ushiftRight, BitVec.getLsbD_ushiftRight]
  by_cases h4 : q < 4
  · have e : (8 * (a.val % 4) + q) % 8 < 4 := by omega
    rw [ix2_eq_valueIdx, bitcast_8_32_getLsbD_ix2 _ _ _ _ _ (by omega) a (by show a.val = 4 * (a.val / 4) + _; omega), ← ix2_eq_valueIdx]
    rw [show (4 * (l.val % 2) + (8 * (a.val % 4) + q)) % 8 = 4 * (l.val % 2) + q by omega]
    simp [h4, Nat.mod_eq_of_lt hq]; try omega
  · have e : ¬ (8 * (a.val % 4) + q) % 8 < 4 := by omega
    simp [h4, Nat.mod_eq_of_lt hq]; try omega

/-- Row `g` of a tile, half `h`, repeated. -/
theorem rows_apply (g : Fin 8) (h : Fin 2) (z : FVec Ideal S8x256 .f32) (i : Fin 64) (l : Fin 128) :
    rows g h z (ix2 i l) = z (ix2 g (⟨128 * h.val + l.val, by omega⟩ : Fin 256)) := by
  unfold rows
  rw [shapeCast_self]
  pointwise

theorem part_apply (h : Fin 2) (x : IVec S512x128 8) (z s : FVec Ideal S8x256 .f32) (g : Fin 8) (i : Fin 64) (l : Fin 128) :
    part (F := Ideal) h x z s g (ix2 i l)
      = ((((Lowp.nibble (l.val % 2) (x (ix2 (⟨64 * g.val + i.val, by omega⟩ : Fin 512) (src h l))) : ℕ) : ℝ) : EReal)
          - z (ix2 g (⟨128 * h.val + l.val, by omega⟩ : Fin 256))) * s (ix2 g (⟨128 * h.val + l.val, by omega⟩ : Fin 256)) := by
  unfold part
  rw [shapeCast_self]
  have e : extractStridedSlice S64x128 ![64 * g.val, 0] (sitofp .bf16 (nibs (F := Ideal) h x) : FVec Ideal S512x128 .bf16) (slices_part g) (ix2 i l)
      = (((nibs (F := Ideal) h x (ix2 (⟨64 * g.val + i.val, by omega⟩ : Fin 512) l)).toInt : ℝ) : EReal) := by
    pointwise
    rfl
  show (extractStridedSlice (s := S512x128) S64x128 ![64 * g.val, 0] _ (slices_part g) (ix2 i l) - rows g h z (ix2 i l)) * rows g h s (ix2 i l) = _
  rw [e, rows_apply, rows_apply, nibs_apply, Lowp.nibble_shift _ (by omega)]
  push_cast
  rfl

/-- The stored tile, entry by entry. -/
theorem wdOf_apply (h : Fin 2) (x : IVec S512x128 8) (z s : FVec Ideal S8x256 .f32) (a : Fin 512) (l : Fin 128) :
    wdOf (F := Ideal) h x z s (ix2 a l)
      = ((((Lowp.nibble (l.val % 2) (x (ix2 a (src h l))) : ℕ) : ℝ) : EReal)
          - z (ix2 (⟨a.val / 64, by omega⟩ : Fin 8) (⟨128 * h.val + l.val, by omega⟩ : Fin 256)))
        * s (ix2 (⟨a.val / 64, by omega⟩ : Fin 8) (⟨128 * h.val + l.val, by omega⟩ : Fin 256)) := by
  have hl : wdOf (F := Ideal) h x z s
      = concatenate S512x128 0 (List.ofFn fun g : Fin 8 => (⟨S64x128, part (F := Ideal) h x z s g⟩ : (s : Shape) × (s.Idx → EReal)))
        concatenates_S64x128_S64x128_S64x128_S64x128_S64x128_S64x128_S64x128_S64x128_S512x128_d0 := rfl
  rw [hl]
  refine (concatenate_ofFn_apply (s₁ := S64x128) (t := S512x128) (0 : Fin 2) (part (F := Ideal) h x z s) _ rfl 64 rfl (ix2 a l) ⟨a.val / 64, by omega⟩ rfl
    (ix2 (⟨a.val % 64, by omega⟩ : Fin 64) l) rfl ?_).trans ?_
  · intro b hb
    match b with
    | ⟨0, _⟩ => exact absurd rfl hb
    | ⟨1, _⟩ => rfl
  · rw [part_apply]
    have : (⟨64 * (a.val / 64) + a.val % 64, by omega⟩ : Fin 512) = a := Fin.ext (by show 64 * (a.val / 64) + a.val % 64 = a.val; omega)
    rw [this]

end Cert.KernelIdeal.Dequant
-- ==== Proof.DequantBlock.lean ====
/- What the dequantiser leaves in its output block, as a function of its three input blocks. -/
module

public import proofs.«01_k».proof.Proof.DequantTile
public import Idealize.ShloMosaic.Lib.Pipeline.ValueKit

@[expose] public section

set_option maxRecDepth 16384

noncomputable section

namespace Cert.KernelIdeal.Dequant

open Idealize.ShloMosaic Idealize.ShloMosaic.TcCoe Idealize.SL.Sem
open Cert.KernelIdeal Cert.KernelIdeal.Gen

/-- The dequantised block. -/
def wdBlk (x0 : IVec S6656x256 8) (x1 x2 : FVec Ideal S104x512 .f32) (i : Fin 6656) (l : Fin 512) : EReal :=
  ((((Lowp.nibble (l.val % 2) (x0 (ix2 i (⟨l.val / 2, by omega⟩ : Fin 256))) : ℕ) : ℝ) : EReal)
      - x1 (ix2 (⟨i.val / 64, by omega⟩ : Fin 104) l)) * x2 (ix2 (⟨i.val / 64, by omega⟩ : Fin 104) l)

theorem wdAt_apply (arg1 : Memref sig .tc .vmem S6656x256 .i8) (arg2 arg3 : Memref sig .tc .vmem S104x512 .f32)
    (X1 : BufTy.Contents (Elt Ideal) arg1.view.ty) (X2 : BufTy.Contents (Elt Ideal) arg2.view.ty) (X3 : BufTy.Contents (Elt Ideal) arg3.view.ty)
    (k : Fin k1_t1_loop.trips) (u : Fin 4) (j h : Fin 2) (hu : u.val = 2 * j.val + h.val) (x : (rectW k u).shape.Idx) :
    (wdAt arg1 arg2 arg3 X1 X2 X3 k u j h).2 x
      = wdBlk (arg1.view.read (Elt Ideal) X1) (arg2.view.read (Elt Ideal) X2) (arg3.view.read (Elt Ideal) X3)
          ((rectW k u).emb x 0) ((rectW k u).emb x 1) := by
  have hk := Nat.lt_of_lt_of_eq k.isLt trips_eq
  have hr := rowOf_eq' k
  have hg := grpOf_eq' k
  obtain ⟨a, l, rfl⟩ : ∃ (a : Fin 512) (l : Fin 128), x = ix2 a l := ⟨x 0, x 1, eq_ix2 x⟩
  have e0 : ((rectW k u).emb (ix2 a l) 0).val = 512 * k.val + a.val :=
    (Rect.idx_unit_val _ _ _ _ _).trans (by show rowOf k.val + a.val = _; omega)
  have e1 : ((rectW k u).emb (ix2 a l) 1).val = 128 * u.val + l.val := Rect.idx_unit_val _ _ _ _ _
  refine (wdOf_apply h _ _ _ a l).trans ?_
  unfold wdBlk
  rw [View.readAt_eq_ld, View.readAt_eq_ld, View.readAt_eq_ld]
  have hp : (l.val % 2) = (((rectW k u).emb (ix2 a l) 1).val % 2) := by omega
  rw [hp]
  refine congrArg₂ (· * ·) (congrArg₂ (· - ·) (congrArg (fun b : BitVec 8 => (((Lowp.nibble _ b : ℕ) : ℝ) : EReal)) ?_) ?_) ?_
  · refine View.ld_unit_apply_of _ _ _ _ _ _ fun c => ?_
    match c with
    | ⟨0, _⟩ => show ((rectW k u).emb (ix2 a l) 0).val = rowOf k.val + a.val; omega
    | ⟨1, _⟩ => show ((rectW k u).emb (ix2 a l) 1).val / 2 = 128 * j.val + (64 * h.val + l.val / 2); omega
  all_goals
    refine View.ld_unit_apply_of _ _ _ _ _ _ fun c => ?_
    match c with
    | ⟨0, _⟩ => show ((rectW k u).emb (ix2 a l) 0).val / 64 = grpOf k.val + a.val / 64; omega
    | ⟨1, _⟩ => show ((rectW k u).emb (ix2 a l) 1).val = 256 * j.val + (128 * h.val + l.val); omega

section
variable (c : Dev nD) (i : grid1.Coords) (arg1 : Memref sig .tc .vmem S6656x256 .i8) (harg1 : arg1.IsWhole)
  (arg2 : Memref sig .tc .vmem S104x512 .f32) (harg2 : arg2.IsWhole) (arg3 : Memref sig .tc .vmem S104x512 .f32) (harg3 : arg3.IsWhole)
  (arg4 : Memref sig .tc .vmem S6656x512 .bf16) (harg4 : arg4.IsWhole)

/-- Every piece the loop stores is a tile of the dequantised block. -/
theorem pieces (𝒱 : Variants) (bd : Option 𝒱.V) (X1 : BufTy.Contents (Elt Ideal) arg1.view.ty) (X2 : BufTy.Contents (Elt Ideal) arg2.view.ty)
    (X3 : BufTy.Contents (Elt Ideal) arg3.view.ty) (n : ℕ) (hn : n ≤ k1_t1_loop.trips) :
    ∀ p ∈ pb_k1_t1 𝒱 c bd i arg1 harg1 arg2 harg2 arg3 harg3 arg4 harg4 X1 X2 X3 n, ∀ x : p.1.shape.Idx,
      p.2 x = wdBlk (arg1.view.read (Elt Ideal) X1) (arg2.view.read (Elt Ideal) X2) (arg3.view.read (Elt Ideal) X3) (p.1.emb x 0) (p.1.emb x 1) := by
  induction n with
  | zero => intro p hp; exact absurd hp List.not_mem_nil
  | succ n ih =>
    intro p hp
    rw [pb_k1_t1_succ 𝒱 c bd i arg1 harg1 arg2 harg2 arg3 harg3 arg4 harg4 X1 X2 X3 ⟨n, hn⟩] at hp
    rcases List.mem_append.1 hp with hp | hp
    · unfold tripL_k1_t1 at hp
      rw [trip_wd] at hp
      simp only [List.mem_cons, List.not_mem_nil, or_false] at hp
      rcases hp with rfl | rfl | rfl | rfl
      all_goals exact wdAt_apply arg1 arg2 arg3 X1 X2 X3 ⟨n, hn⟩ _ _ _ rfl
    · exact ih (Nat.le_of_succ_le hn) p hp

theorem out1_eq (x0 : Vec Ideal S6656x256 .i8) (x1 x2 : Vec Ideal S104x512 .f32) (y : S6656x512.Idx) :
    out1_A_3 c i arg1 harg1 arg2 harg2 arg3 harg3 arg4 harg4 x0 x1 x2 y = wdBlk x0 x1 x2 (y 0) (y 1) := by
  unfold out1_A_3
  refine View.read_writes_apply_of_pieces VO1_3 VO1_3.junk (fun z : S6656x512.Idx => wdBlk x0 x1 x2 (z 0) (z 1)) _ ?_ y
    (cover1_A_3 c i arg1 harg1 arg2 harg2 arg3 harg3 arg4 harg4 x0 x1 x2 y)
  unfold kernelRun1_A
  dsimp only
  have h := pieces c i arg1 harg1 arg2 harg2 arg3 harg3 arg4 harg4 Variants.none none (harg1.unread x0) (harg2.unread x1) (harg3.unread x2) _ (Nat.le_refl _)
  rw [harg1.read_unread, harg2.read_unread, harg3.read_unread] at h
  intro p hp
  exact h p (by simpa using hp)
end

end Cert.KernelIdeal.Dequant
-- ==== Proof.Region1.lean ====
/- The dequantiser's result array, as a function of the packed weights, the zero points and the scales. -/
module

public import proofs.«01_k».proof.Proof.DequantBlock
public import proofs.«01_k».proof.Proof.Gen.KernelIdeal.Frame

@[expose] public section

set_option maxRecDepth 16384

noncomputable section

namespace Cert.KernelIdeal.Region1

open Idealize.ShloMosaic Idealize.ShloMosaic.TcCoe Idealize.SL.Sem
open Cert.KernelIdeal Cert.KernelIdeal.Gen Cert.KernelIdeal.Dequant

/-- The packed weights, and a table of scales or of zero points, entry by entry. -/
def bytesA (x : IVec S6656x8192 8) (i : Fin 6656) (k : Fin 8192) : BitVec 8 := x (ix2 i k)
def tableA (x : FVec Ideal S104x16384 .f32) (g : Fin 104) (j : Fin 16384) : EReal := x (ix2 g j)

variable (V : (c : Dev nD) → (b : Ref sig .tc) → Buf (Elt Ideal) ((c : Thread nD τ).loc b))

theorem idx0 : ∀ t : Fin cfg1.N, win1_0.index t = ![0, t.val] := (by decide +kernel : ∀ t : Fin grid1.N, _)
theorem idx1 : ∀ t : Fin cfg1.N, win1_1.index t = ![0, t.val] := (by decide +kernel : ∀ t : Fin grid1.N, _)
theorem idx2 : ∀ t : Fin cfg1.N, win1_2.index t = ![0, t.val] := (by decide +kernel : ∀ t : Fin grid1.N, _)
theorem idx3 : ∀ t : Fin cfg1.N, win1_3.index t = ![0, t.val] := (by decide +kernel : ∀ t : Fin grid1.N, _)

/-- The blocks of point `t`: columns `512 t` on, 256 bytes to the block. -/
theorem bytes_eq (c : Dev nD) (t : Fin cfg1.N) (i : Fin 6656) (a : Fin 256) (k : Fin 8192) (h : k.val = t.val * 256 + a.val) :
    iblk1 V c 0 t (ix2 i a) = bytesA (V c main_arg1) i k := by
  unfold bytesA
  blk_simp [iblk1]
  congr 1
  blk_ext [idx0]

theorem zero_eq (c : Dev nD) (t : Fin cfg1.N) (g : Fin 104) (a : Fin 512) (k : Fin 16384) (h : k.val = t.val * 512 + a.val) :
    iblk1 V c 1 t (ix2 g a) = tableA (V c main_v2) g k := by
  unfold tableA
  blk_simp [iblk1]
  congr 1
  blk_ext [idx1]

theorem scale_eq (c : Dev nD) (t : Fin cfg1.N) (g : Fin 104) (a : Fin 512) (k : Fin 16384) (h : k.val = t.val * 512 + a.val) :
    iblk1 V c 2 t (ix2 g a) = tableA (V c main_arg2) g k := by
  unfold tableA
  blk_simp [iblk1]
  congr 1
  blk_ext [idx2]

/-- The block the body leaves at point `t`. -/
theorem blk_eq (c : Dev nD) (t : Fin cfg1.N) (i i' : Fin 6656) (l : Fin 512) (k : Fin 16384) (hi : i'.val = i.val)
    (h : k.val = t.val * 512 + l.val) :
    wdBlk (iblk1 V c 0 t) (iblk1 V c 1 t) (iblk1 V c 2 t) i l
      = Lowp.weight (bytesA (V c main_arg1)) (tableA (V c main_v2)) (tableA (V c main_arg2)) i' k := by
  obtain rfl : i' = i := Fin.ext hi
  unfold wdBlk Lowp.weight
  have hp : k.val % 2 = l.val % 2 := by omega
  rw [zero_eq V c t _ _ _ h, scale_eq V c t _ _ _ h, bytes_eq V c t _ _ (⟨k.val / 2, by omega⟩ : Fin 8192) (by show k.val / 2 = t.val * 256 + l.val / 2; omega), hp]

/-- The dequantised weights. -/
theorem arr3 (c : Dev nD) : (dat1 V c).arrAt 3 cfg1.N
    = fun i : S6656x16384.Idx => Lowp.weight (bytesA (V c main_arg1)) (tableA (V c main_v2)) (tableA (V c main_arg2)) (i 0) (i 1) := by
  refine (dat1 V c).arrAt_eq_of_covers 3 _ (by decide +kernel) fun t hf y => ?_
  have h0 : (((win1_3.blk t).view.emb y : S6656x16384.Idx) 0).val = ((y : S6656x512.Idx) 0).val := by blk_simp [idx3]
  have h1 : (((win1_3.blk t).view.emb y : S6656x16384.Idx) 1).val = t.val * 512 + ((y : S6656x512.Idx) 1).val := by blk_simp [idx3]
  blk_simp
  rw [after1_3]
  unfold outsAt1
  rw [out1_eq]
  exact blk_eq V c t _ _ _ _ h0 h1

end Cert.KernelIdeal.Region1
-- ==== Proof.Region2.lean ====
/- The main product's result array, as a function of its four operand arrays. -/
module

public import proofs.«01_k».proof.Proof.Products
public import proofs.«01_k».proof.Proof.Gen.KernelIdeal.Frame
public import Idealize.ShloMosaic.Lib.Pipeline.ValueKit

@[expose] public section

set_option maxRecDepth 16384

noncomputable section

namespace Cert.KernelIdeal.Region2

open Idealize.ShloMosaic Idealize.ShloMosaic.TcCoe Idealize.SL.Sem
open Cert.KernelIdeal Cert.KernelIdeal.Gen

/-- An entry of `x · w + t · l`. -/
def prodA (x : FVec Ideal S16384x6656 .bf16) (w : FVec Ideal S6656x16384 .bf16) (t : FVec Ideal S16384x64 .bf16) (l : FVec Ideal S64x16384 .bf16)
    (r : Fin 16384) (k : Fin 16384) : EReal :=
  (∑ j : Fin 6656, x (ix2 r j) * w (ix2 j k)) + ∑ j : Fin 64, t (ix2 r j) * l (ix2 j k)

variable (V : (c : Dev nD) → (b : Ref sig .tc) → Buf (Elt Ideal) ((c : Thread nD τ).loc b))

theorem idx0 : ∀ t : Fin cfg2.N, win2_0.index t = ![t.val / 32, 0] := (by decide +kernel : ∀ t : Fin grid2.N, _)
theorem idx1 : ∀ t : Fin cfg2.N, win2_1.index t = ![t.val / 32, 0] := (by decide +kernel : ∀ t : Fin grid2.N, _)
theorem idx2 : ∀ t : Fin cfg2.N, win2_2.index t = ![0, t.val % 32] := (by decide +kernel : ∀ t : Fin grid2.N, _)
theorem idx3 : ∀ t : Fin cfg2.N, win2_3.index t = ![0, t.val % 32] := (by decide +kernel : ∀ t : Fin grid2.N, _)
theorem idx4 : ∀ t : Fin cfg2.N, win2_4.index t = ![t.val / 32, t.val % 32] := (by decide +kernel : ∀ t : Fin grid2.N, _)

/-- The operand blocks of point `t`: rows `1024 (t / 32)` on, columns `512 (t % 32)` on. -/
theorem x_eq (c : Dev nD) (t : Fin cfg2.N) (a : Fin 1024) (j : Fin 6656) (r : Fin 16384) (h : r.val = t.val / 32 * 1024 + a.val) :
    iblk2 V c 0 t (ix2 a j) = (V c main_v1_0 : FVec Ideal S16384x6656 .bf16) (ix2 r j) := by
  blk_simp [iblk2]
  congr 1
  blk_ext [idx0]

theorem t_eq (c : Dev nD) (t : Fin cfg2.N) (a : Fin 1024) (j : Fin 64) (r : Fin 16384) (h : r.val = t.val / 32 * 1024 + a.val) :
    iblk2 V c 1 t (ix2 a j) = (V c main_v1_3 : FVec Ideal S16384x64 .bf16) (ix2 r j) := by
  blk_simp [iblk2]
  congr 1
  blk_ext [idx1]

theorem w_eq (c : Dev nD) (t : Fin cfg2.N) (a : Fin 512) (j : Fin 6656) (k : Fin 16384) (h : k.val = t.val % 32 * 512 + a.val) :
    iblk2 V c 2 t (ix2 j a) = (V c main_v3 : FVec Ideal S6656x16384 .bf16) (ix2 j k) := by
  blk_simp [iblk2]
  congr 1
  blk_ext [idx2]

theorem l_eq (c : Dev nD) (t : Fin cfg2.N) (a : Fin 512) (j : Fin 64) (k : Fin 16384) (h : k.val = t.val % 32 * 512 + a.val) :
    iblk2 V c 3 t (ix2 j a) = (V c main_arg5 : FVec Ideal S64x16384 .bf16) (ix2 j k) := by
  blk_simp [iblk2]
  congr 1
  blk_ext [idx3]

/-- The block the body leaves at point `t`. -/
theorem blk_eq (c : Dev nD) (t : Fin cfg2.N) (a : Fin 1024) (b : Fin 512) (r k : Fin 16384) (hr : r.val = t.val / 32 * 1024 + a.val)
    (hk : k.val = t.val % 32 * 512 + b.val) :
    out2_4 (iblk2 V c 0 t) (iblk2 V c 1 t) (iblk2 V c 2 t) (iblk2 V c 3 t) (ix2 a b)
      = prodA (V c main_v1_0) (V c main_v3) (V c main_v1_3) (V c main_arg5) r k := by
  unfold out2_4
  rw [View.canon_unit_zero Products.off_zero, View.ld_unit_zero Products.off_zero, View.ld_unit_zero Products.off_zero,
    View.ld_unit_zero Products.off_zero, View.ld_unit_zero Products.off_zero]
  refine (Products.main_apply _ _ _ _ a b).trans ?_
  unfold prodA
  refine congrArg₂ (· + ·) (Finset.sum_congr rfl fun j _ => ?_) (Finset.sum_congr rfl fun j _ => ?_)
  · rw [x_eq V c t a j r hr, w_eq V c t b j k hk]
  · rw [t_eq V c t a j r hr, l_eq V c t b j k hk]

/-- The product. -/
theorem arr4 (c : Dev nD) : (dat2 V c).arrAt 4 cfg2.N
    = fun i : S16384x16384.Idx => prodA (V c main_v1_0) (V c main_v3) (V c main_v1_3) (V c main_arg5) (i 0) (i 1) := by
  refine (dat2 V c).arrAt_eq_of_covers 4 _ (by decide +kernel) fun t hf y => ?_
  have h0 : (((win2_4.blk t).view.emb y : S16384x16384.Idx) 0).val = t.val / 32 * 1024 + ((y : S1024x512.Idx) 0).val := by blk_simp [idx4]
  have h1 : (((win2_4.blk t).view.emb y : S16384x16384.Idx) 1).val = t.val % 32 * 512 + ((y : S1024x512.Idx) 1).val := by blk_simp [idx4]
  blk_simp
  rw [after2_4]
  refine (congrArg _ (eq_ix2 (y : S1024x512.Idx))).trans (blk_eq V c t _ _ _ _ h0 h1)

end Cert.KernelIdeal.Region2
-- ==== Proof.KernelValue.lean ====
/- The kernel's three result arrays, as functions of its argument arrays. -/
module

public import proofs.«01_k».proof.Proof.Results
public import proofs.«01_k».proof.Proof.KernelRun
public import proofs.«01_k».proof.Proof.Region0
public import proofs.«01_k».proof.Proof.Region1
public import proofs.«01_k».proof.Proof.Region2

@[expose] public section

set_option maxRecDepth 16384

noncomputable section

namespace Cert.KernelIdeal.Final

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ### The host's reshapes -/

theorem merge_lt (b : Fin 2) (s : Fin 8192) : 8192 * b.val + s.val < 16384 := by omega

/-- Two batches of 8192 rows as 16384 rows, and back. -/
theorem merge_apply {α : Type} {K : ℕ} (x : (⟨3, ![2, 8192, K]⟩ : Shape).Idx → α)
    (h : (⟨3, ![2, 8192, K]⟩ : Shape).ShapeCasts ⟨2, ![16384, K]⟩) (b : Fin 2) (s : Fin 8192) (r : Fin 16384) (j : Fin K)
    (hr : r.val = 8192 * b.val + s.val) : shapeCast ⟨2, ![16384, K]⟩ x h (ix2 r j) = x (ix3 b s j) := by
  refine shapeCast_apply _ _ _ _ ?_
  rw [Shape.rowMajor_val_two, Shape.rowMajor_val_three]
  show (b.val * 8192 + s.val) * K + j.val = r.val * K + j.val
  rw [hr, Nat.mul_comm b.val]

theorem split_apply {α : Type} {K : ℕ} (x : (⟨2, ![16384, K]⟩ : Shape).Idx → α)
    (h : (⟨2, ![16384, K]⟩ : Shape).ShapeCasts ⟨3, ![2, 8192, K]⟩) (b : Fin 2) (s : Fin 8192) (j : Fin K) :
    shapeCast ⟨3, ![2, 8192, K]⟩ x h (ix3 b s j) = x (ix2 ⟨8192 * b.val + s.val, merge_lt b s⟩ j) := by
  refine shapeCast_apply _ _ _ _ ?_
  rw [Shape.rowMajor_val_two, Shape.rowMajor_val_three]
  show (8192 * b.val + s.val) * K + j.val = (b.val * 8192 + s.val) * K + j.val
  rw [Nat.mul_comm b.val]

/-! ### What each call reads -/

/-- The argument arrays. -/
abbrev aX : FVec Ideal S2x8192x6656 .bf16 := m ((c : Thread nD τ).loc main_arg0)
abbrev aW : IVec S6656x8192 8 := m ((c : Thread nD τ).loc main_arg1)
abbrev aS : FVec Ideal S104x16384 .f32 := m ((c : Thread nD τ).loc main_arg2)
abbrev aZ : FVec Ideal S104x16384 .bf16 := m ((c : Thread nD τ).loc main_arg3)
abbrev aD : FVec Ideal S6656x64 .bf16 := m ((c : Thread nD τ).loc main_arg4)
abbrev aU : FVec Ideal S64x16384 .bf16 := m ((c : Thread nD τ).loc main_arg5)

theorem v0_eq : V1 m ρ c main_v0 = shapeCast S16384x6656 (aX m c) shapeCasts_S2x8192x6656_S16384x6656 := by
  show StableHlo.after hostOps0 (W0 m ρ c) (Proc.devRef .tc main_v0) = _
  after_results
  rfl

theorem row_eq (b : Fin 2) (s : Fin 8192) (r : Fin 16384) (h : r.val = 8192 * b.val + s.val) :
    Region0.rowA (V1 m ρ c main_v0) r = Lowp.row (aX m c) b s := by
  funext j
  unfold Region0.rowA Lowp.row
  rw [v0_eq]
  exact merge_apply _ _ b s r j h

theorem l1_eq : V1 m ρ c main_arg4 = aD m c := W1_args m ρ c main_arg4 (by decide)

theorem v2_eq : V3 m ρ c main_v2 = (extf .f32 (aZ m c) bitsLt_bf16_f32 : FVec Ideal S104x16384 .f32) := by
  have e : W2 m ρ c (Proc.devRef .tc main_arg3) = aZ m c := W2_args m ρ c main_arg3 (by decide)
  show StableHlo.after hostOps1 (W2 m ρ c) (Proc.devRef .tc main_v2) = _
  after_results
  rw [e]

theorem zero_eq : Region1.tableA (V3 m ρ c main_v2) = Lowp.table (aZ m c) := by
  rw [v2_eq]
  rfl

theorem scale_eq : Region1.tableA (V3 m ρ c main_arg2) = Lowp.table (aS m c) := by
  rw [show V3 m ρ c main_arg2 = aS m c from W3_args m ρ c main_arg2 (by decide)]
  rfl

theorem bytes_eq : Region1.bytesA (V3 m ρ c main_arg1) = Lowp.bytes (aW m c) := by
  rw [show V3 m ρ c main_arg1 = aW m c from W3_args m ρ c main_arg1 (by decide)]
  rfl

/-! ### What the main product reads -/

theorem xd_eq (b : Fin 2) (s : Fin 8192) (r : Fin 16384) (h : r.val = 8192 * b.val + s.val) (j : Fin 6656) :
    (V4 m ρ c main_v1_0 : FVec Ideal S16384x6656 .bf16) (ix2 r j) = Lowp.deq (Lowp.row (aX m c) b s) j := by
  have e : V4 m ρ c main_v1_0 = (dat0 (V1 m ρ) c).arrAt 2 cfg0.N :=
    (W4_of m ρ c main_v1_0 (by decide)).trans ((W3_of m ρ c main_v1_0 (by decide)).trans (W2_arr m ρ c 2))
  rw [e, Region0.arr2, ← row_eq m ρ c b s r h]
  rfl

theorem t_eq (b : Fin 2) (s : Fin 8192) (r : Fin 16384) (h : r.val = 8192 * b.val + s.val) (k : Fin 64) :
    (V4 m ρ c main_v1_3 : FVec Ideal S16384x64 .bf16) (ix2 r k) = Lowp.lora (Lowp.row (aX m c) b s) (Lowp.down (aD m c)) k := by
  have e : V4 m ρ c main_v1_3 = (dat0 (V1 m ρ) c).arrAt 5 cfg0.N :=
    (W4_of m ρ c main_v1_3 (by decide)).trans ((W3_of m ρ c main_v1_3 (by decide)).trans (W2_arr m ρ c 5))
  rw [e, Region0.arr5, ← row_eq m ρ c b s r h, l1_eq]
  rfl

theorem wd_eq (i : Fin 6656) (j : Fin 16384) :
    (V4 m ρ c main_v3 : FVec Ideal S6656x16384 .bf16) (ix2 i j)
      = Lowp.weight (Lowp.bytes (aW m c)) (Lowp.table (aZ m c)) (Lowp.table (aS m c)) i j := by
  have e : V4 m ρ c main_v3 = (dat1 (V3 m ρ) c).arrAt 3 cfg1.N := W4_arr m ρ c 3
  rw [e, Region1.arr3, zero_eq, scale_eq, bytes_eq]
  rfl

theorem l2_eq : V4 m ρ c main_arg5 = aU m c := W4_args m ρ c main_arg5 (by decide)

/-! ### The results -/

theorem out_eq : W6 m ρ c (Proc.devRef .tc main_v5)
    = Lowp.outArr (aX m c) (aW m c) (aS m c) (aZ m c) (aD m c) (aU m c) := by
  have e : W5 m ρ c (Proc.devRef .tc main_v4) = (dat2 (V4 m ρ) c).arrAt 4 cfg2.N := W5_arr m ρ c 4
  have e' : W6 m ρ c (Proc.devRef .tc main_v5)
      = shapeCast S2x8192x16384 (W5 m ρ c (Proc.devRef .tc main_v4) : FVec Ideal S16384x16384 .bf16) shapeCasts_S16384x16384_S2x8192x16384 := by
    show StableHlo.after hostOps3 (W5 m ρ c) (Proc.devRef .tc main_v5) = _
    after_results
    rfl
  rw [e', e, Region2.arr4]
  funext i
  obtain ⟨b, s, j, rfl⟩ : ∃ (b : Fin 2) (s : Fin 8192) (j : Fin 16384), i = ix3 b s j := ⟨i 0, i 1, i 2, eq_ix3 i⟩
  refine (split_apply _ _ b s j).trans ?_
  show Region2.prodA _ _ _ _ ⟨8192 * b.val + s.val, merge_lt b s⟩ j = Lowp.out (Lowp.row (aX m c) b s) _ _ _ _ _ j
  unfold Region2.prodA Lowp.out
  refine congrArg₂ (· + ·) (Finset.sum_congr rfl fun k _ => ?_) (Finset.sum_congr rfl fun k _ => ?_)
  · rw [xd_eq m ρ c b s _ rfl, wd_eq]
  · rw [t_eq m ρ c b s _ rfl, l2_eq]
    rfl

theorem code_eq : W6 m ρ c (Proc.devRef .tc main_v6) = Lowp.codeArr (aX m c) := by
  have e : W5 m ρ c (Proc.devRef .tc main_v1_1) = (dat0 (V1 m ρ) c).arrAt 3 cfg0.N :=
    (W5_of m ρ c main_v1_1 (by decide)).trans ((W4_of m ρ c main_v1_1 (by decide)).trans
      ((W3_of m ρ c main_v1_1 (by decide)).trans (W2_arr m ρ c 3)))
  have e' : W6 m ρ c (Proc.devRef .tc main_v6)
      = shapeCast S2x8192x3328 (W5 m ρ c (Proc.devRef .tc main_v1_1) : IVec S16384x3328 8) shapeCasts_S16384x3328_S2x8192x3328 := by
    show StableHlo.after hostOps3 (W5 m ρ c) (Proc.devRef .tc main_v6) = _
    after_results
    rfl
  rw [e', e, Region0.arr3]
  funext i
  obtain ⟨b, s, j, rfl⟩ : ∃ (b : Fin 2) (s : Fin 8192) (j : Fin 3328), i = ix3 b s j := ⟨i 0, i 1, i 2, eq_ix3 i⟩
  refine (split_apply _ _ b s j).trans ?_
  exact congrArg (fun r => Lowp.code r j) (row_eq m ρ c b s _ rfl)

theorem scales_eq : W6 m ρ c (Proc.devRef .tc main_v7) = Lowp.scaleArr (aX m c) := by
  have e : W5 m ρ c (Proc.devRef .tc main_v1_2) = (dat0 (V1 m ρ) c).arrAt 4 cfg0.N :=
    (W5_of m ρ c main_v1_2 (by decide)).trans ((W4_of m ρ c main_v1_2 (by decide)).trans
      ((W3_of m ρ c main_v1_2 (by decide)).trans (W2_arr m ρ c 4)))
  have e' : W6 m ρ c (Proc.devRef .tc main_v7)
      = shapeCast S2x8192x104 (W5 m ρ c (Proc.devRef .tc main_v1_2) : FVec Ideal S16384x104 .f32) shapeCasts_S16384x104_S2x8192x104 := by
    show StableHlo.after hostOps3 (W5 m ρ c) (Proc.devRef .tc main_v7) = _
    after_results
    rfl
  rw [e', e, Region0.arr4]
  funext i
  obtain ⟨b, s, j, rfl⟩ : ∃ (b : Fin 2) (s : Fin 8192) (j : Fin 104), i = ix3 b s j := ⟨i 0, i 1, i 2, eq_ix3 i⟩
  refine (split_apply _ _ b s j).trans ?_
  exact congrArg (fun r => Lowp.scale r j) (row_eq m ρ c b s _ rfl)

end Cert.KernelIdeal.Final
-- ==== Proof.RefQuant.lean ====
/- The reference's quantisation, entry by entry: its scales, its packed codes and its dequantised activations are the
   ones of the specification. -/
module

public import proofs.«01_k».proof.Proof.Results
public import proofs.«01_k».proof.Proof.QuantTile
public import proofs.«01_k».proof.Proof.Gen.ReferenceIdeal.Read

@[expose] public section

set_option maxRecDepth 16384

noncomputable section

namespace Cert.ReferenceIdeal.Final

open Idealize.ShloMosaic Idealize.ShloMosaic.TcCoe Idealize.SL.Sem
open Cert.ReferenceIdeal Cert.ReferenceIdeal.Gen Cert.ReferenceIdeal.Read

variable (x : FVec Ideal S2x8192x6656 .bf16)

/-! ### Where the reshapes read -/

theorem col_lt (g : Fin 104) (l : Fin 64) : 64 * g.val + l.val < 6656 := by omega
theorem grp_lt (j : Fin 6656) : j.val / 64 < 104 := by omega
theorem lane_lt (j : Fin 6656) : j.val % 64 < 64 := by omega
theorem even_lt (k : Fin 3328) : 2 * k.val < 6656 := by omega
theorem odd_lt (k : Fin 3328) : 2 * k.val + 1 < 6656 := by omega

theorem idx1 (b : Fin 2) (s : Fin 8192) (g : Fin 104) (l : Fin 64) :
    idx_main_v1 (ix4 b s g l) = ix3 b s ⟨64 * g.val + l.val, col_lt g l⟩ :=
  funext fun a => match a with
  | ⟨0, _⟩ => Fin.ext (by show (((b.val * 8192 + s.val) * 104 + g.val) * 64 + l.val) / 54525952 = b.val; omega)
  | ⟨1, _⟩ => Fin.ext (by show (((b.val * 8192 + s.val) * 104 + g.val) * 64 + l.val) / 6656 % 8192 = s.val; omega)
  | ⟨2, _⟩ => Fin.ext (by show (((b.val * 8192 + s.val) * 104 + g.val) * 64 + l.val) % 6656 = 64 * g.val + l.val; omega)

theorem idx15 (b : Fin 2) (s : Fin 8192) (j : Fin 6656) :
    idx_main_v15 (ix3 b s j) = ix4 b s ⟨j.val / 64, grp_lt j⟩ ⟨j.val % 64, lane_lt j⟩ :=
  funext fun a => match a with
  | ⟨0, _⟩ => Fin.ext (by show ((b.val * 8192 + s.val) * 6656 + j.val) / 54525952 = b.val; omega)
  | ⟨1, _⟩ => Fin.ext (by show ((b.val * 8192 + s.val) * 6656 + j.val) / 6656 % 8192 = s.val; omega)
  | ⟨2, _⟩ => Fin.ext (by show ((b.val * 8192 + s.val) * 6656 + j.val) / 64 % 104 = j.val / 64; omega)
  | ⟨3, _⟩ => Fin.ext (by show ((b.val * 8192 + s.val) * 6656 + j.val) % 64 = j.val % 64; omega)

/-- Splitting a column into its group and lane and joining them again. -/
theorem split_col (j : Fin 6656) :
    (⟨64 * (⟨j.val / 64, grp_lt j⟩ : Fin 104).val + (⟨j.val % 64, lane_lt j⟩ : Fin 64).val, col_lt _ _⟩ : Fin 6656) = j :=
  Fin.ext (Nat.div_add_mod j.val 64)

theorem col_div (g : Fin 104) (l : Fin 64) (h : (64 * g.val + l.val) / 64 < 104) : (⟨(64 * g.val + l.val) / 64, h⟩ : Fin 104) = g :=
  Fin.ext (by show (64 * g.val + l.val) / 64 = g.val; omega)

/-! ### Scales -/

theorem v1_at (b : Fin 2) (s : Fin 8192) (g : Fin 104) (l : Fin 64) :
    val_main_v1 (F := Ideal) x (ix4 b s g l) = Lowp.row x b s ⟨64 * g.val + l.val, col_lt g l⟩ := by
  rw [val_main_v1_apply, idx1]
  rfl

/-- A maximum over the last axis, from minus infinity. -/
theorem fold_last (y : FVec Ideal S2x8192x104x64 .f32) (b : Fin 2) (s : Fin 8192) (g : Fin 104) :
    Host.reduce FloatOps.maximumf y (val_main_cst (F := Ideal)) reducesTo_S2x8192x104x64_S2x8192x104_d3 h_S_ (ix3 b s g)
      = Finset.univ.fold max ⊥ fun l : Fin 64 => y (ix4 b s g l) := by
  unfold val_main_cst
  pointwise
  rw [Cert.KernelIdeal.Quant.negInf]

theorem v3_at (b : Fin 2) (s : Fin 8192) (g : Fin 104) :
    val_main_v3 (F := Ideal) x (ix3 b s g) = Lowp.amax (Lowp.row x b s) g := by
  unfold val_main_v3
  rw [fold_last]
  unfold Lowp.amax
  refine congrArg (Finset.fold max ⊥ · Finset.univ) (funext fun l => ?_)
  rw [val_main_v2_apply, v1_at]
  rfl

theorem v8_at (b : Fin 2) (s : Fin 8192) (g : Fin 104) :
    val_main_v8 (F := Ideal) x (ix3 b s g) = Lowp.scale (Lowp.row x b s) g := by
  rw [val_main_v8_apply, val_main_v5_apply, val_main_v7_apply, v3_at, val_main_v4_apply, val_main_v6_apply, val_main_call0_v1_apply]
  unfold Lowp.scale
  show Scalar.select (Ideal.cmp .ogt _ (Ideal.ofBits .f32 0x00000000#32)) (Ideal.div _ (Ideal.ofBits .f32 0x40E00000#32)) (Ideal.ofBits .f32 0x3F800000#32) = _
  rw [Ideal.ofBits_zero_f32]

/-- The reference's scales. -/
theorem scales_eq : val_main_v8 (F := Ideal) x = Lowp.scaleArr x := by
  funext i
  rw [eq_ix3 i]
  exact v8_at x _ _ _

/-! ### Codes -/

theorem v10_at (b : Fin 2) (s : Fin 8192) (g : Fin 104) (l : Fin 64) :
    val_main_v10 (F := Ideal) x (ix4 b s g l) = Lowp.scale (Lowp.row x b s) g := by
  rw [val_main_v10_apply, val_main_v9_apply, ← v8_at]
  congr 1
  exact eq_ix3 _

/-- The clipped quotient. -/
theorem v13_at (b : Fin 2) (s : Fin 8192) (g : Fin 104) (l : Fin 64) :
    val_main_v13 (F := Ideal) x (ix4 b s g l)
      = Lowp.clip (Ideal.div (Lowp.row x b s ⟨64 * g.val + l.val, col_lt g l⟩) (Lowp.scale (Lowp.row x b s) g)) := by
  rw [val_main_v13_apply, val_main_call2_v2_apply, val_main_v12_apply, val_main_v11_apply, v1_at, v10_at, val_main_call2_v4_apply,
    val_main_call2_v1_apply]
  rfl

theorem v13_col (b : Fin 2) (s : Fin 8192) (j : Fin 6656) :
    val_main_v13 (F := Ideal) x (ix4 b s ⟨j.val / 64, grp_lt j⟩ ⟨j.val % 64, lane_lt j⟩) = Lowp.quant (Lowp.row x b s) j := by
  rw [v13_at, split_col]
  rfl

theorem v15_at (b : Fin 2) (s : Fin 8192) (j : Fin 6656) :
    val_main_v15 (F := Ideal) x (ix3 b s j) = Ideal.fptosi 32 (Lowp.quant (Lowp.row x b s) j) := by
  rw [val_main_v15_apply, idx15, val_main_v14_apply, v13_col]
  rfl

theorem v17_at (b : Fin 2) (s : Fin 8192) (j : Fin 6656) :
    val_main_v17 (F := Ideal) x (ix3 b s j) = IntOp.andi (Ideal.fptosi 32 (Lowp.quant (Lowp.row x b s) j)) 15#32 := by
  rw [val_main_v17_apply, v15_at, val_main_v16_apply]
  rfl

theorem v18_at (b : Fin 2) (s : Fin 8192) (k : Fin 3328) :
    val_main_v18 (F := Ideal) x (ix3 b s k) = val_main_v17 (F := Ideal) x (ix3 b s ⟨2 * k.val, even_lt k⟩) := by
  unfold val_main_v18
  generalize val_main_v17 (F := Ideal) x = y
  rw [Host.slice_apply]
  exact congrArg y (funext fun a => match a with
    | ⟨0, _⟩ => Fin.ext (by show 0 + 1 * b.val = b.val; omega)
    | ⟨1, _⟩ => Fin.ext (by show 0 + 1 * s.val = s.val; omega)
    | ⟨2, _⟩ => Fin.ext (by show 0 + 2 * k.val = 2 * k.val; omega))

theorem v19_at (b : Fin 2) (s : Fin 8192) (k : Fin 3328) :
    val_main_v19 (F := Ideal) x (ix3 b s k) = val_main_v17 (F := Ideal) x (ix3 b s ⟨2 * k.val + 1, odd_lt k⟩) := by
  unfold val_main_v19
  generalize val_main_v17 (F := Ideal) x = y
  rw [Host.slice_apply]
  exact congrArg y (funext fun a => match a with
    | ⟨0, _⟩ => Fin.ext (by show 0 + 1 * b.val = b.val; omega)
    | ⟨1, _⟩ => Fin.ext (by show 0 + 1 * s.val = s.val; omega)
    | ⟨2, _⟩ => Fin.ext (by show 1 + 2 * k.val = 2 * k.val + 1; omega))

theorem v23_at (b : Fin 2) (s : Fin 8192) (k : Fin 3328) :
    val_main_v23 (F := Ideal) x (ix3 b s k) = Lowp.code (Lowp.row x b s) k := by
  rw [val_main_v23_apply, val_main_v22_apply, val_main_v21_apply, v18_at, v19_at, v17_at, v17_at, val_main_v20_apply]
  exact Lowp.join_trunc _ _

/-- The reference's packed codes. -/
theorem codes_eq : val_main_v23 (F := Ideal) x = Lowp.codeArr x := by
  funext i
  rw [eq_ix3 i]
  exact v23_at x _ _ _

/-! ### Dequantised activations -/

theorem idx24 (b : Fin 2) (s : Fin 8192) (g : Fin 104) (l : Fin 64) :
    idx_main_v24 (ix4 b s g l) = ix3 b s ⟨64 * g.val + l.val, col_lt g l⟩ := idx1 b s g l

theorem idx31 (b : Fin 2) (s : Fin 8192) (j : Fin 6656) :
    idx_main_v31 (ix3 b s j) = ix4 b s ⟨j.val / 64, grp_lt j⟩ ⟨j.val % 64, lane_lt j⟩ := idx15 b s j

theorem v29_at (b : Fin 2) (s : Fin 8192) (g : Fin 104) (l : Fin 64) :
    val_main_v29 (F := Ideal) x (ix4 b s g l) = Lowp.scale (Lowp.row x b s) g := by
  rw [val_main_v29_apply, val_main_v28_apply, val_main_v27_apply, ← v8_at]
  exact congrArg (val_main_v8 (F := Ideal) x) (eq_ix3 _)

theorem v26_at (b : Fin 2) (s : Fin 8192) (g : Fin 104) (l : Fin 64) :
    val_main_v26 (F := Ideal) x (ix4 b s g l) = Lowp.quant (Lowp.row x b s) ⟨64 * g.val + l.val, col_lt g l⟩ := by
  rw [val_main_v26_apply, val_main_v25_apply, val_main_v24_apply, idx24, v15_at]
  exact Lowp.toInt_fptosi_clip _

/-- The reference's dequantised activations. -/
theorem v31_at (b : Fin 2) (s : Fin 8192) (j : Fin 6656) :
    val_main_v31 (F := Ideal) x (ix3 b s j) = Lowp.deq (Lowp.row x b s) j := by
  rw [val_main_v31_apply, idx31, val_main_v30_apply, v26_at, v29_at, split_col]
  rfl

end Cert.ReferenceIdeal.Final
-- ==== Proof.RefWeights.lean ====
/- The reference's weights: the even columns come from the low nibbles, the odd ones from the high nibbles. -/
module

public import proofs.«01_k».proof.Proof.Results
public import proofs.«01_k».proof.Proof.Gen.ReferenceIdeal.Read

@[expose] public section

set_option maxRecDepth 16384

noncomputable section

namespace Cert.ReferenceIdeal.Final

open Idealize.ShloMosaic Idealize.ShloMosaic.TcCoe Idealize.SL.Sem
open Cert.ReferenceIdeal Cert.ReferenceIdeal.Gen Cert.ReferenceIdeal.Read

variable (w : IVec S6656x8192 8) (sc : FVec Ideal S104x16384 .f32) (z : FVec Ideal S104x16384 .bf16)

theorem wcol_lt (g : Fin 104) (l : Fin 64) : 64 * g.val + l.val < 6656 := by omega
theorem wgrp_lt (i : Fin 6656) : i.val / 64 < 104 := by omega
theorem wlane_lt (i : Fin 6656) : i.val % 64 < 64 := by omega
theorem lo_lt (k : Fin 8192) : 2 * k.val < 16384 := by omega
theorem hi_lt (k : Fin 8192) : 2 * k.val + 1 < 16384 := by omega

/-- Splitting a row into its group and lane and joining them again. -/
theorem split_row (i : Fin 6656) :
    (⟨64 * (⟨i.val / 64, wgrp_lt i⟩ : Fin 104).val + (⟨i.val % 64, wlane_lt i⟩ : Fin 64).val, wcol_lt _ _⟩ : Fin 6656) = i :=
  Fin.ext (Nat.div_add_mod i.val 64)

/-! ### Where the reshapes and the strided slices read -/

theorem idx39 (g : Fin 104) (l : Fin 64) (k : Fin 8192) :
    idx_main_v39 (ix3 g l k) = ix2 ⟨64 * g.val + l.val, wcol_lt g l⟩ k :=
  funext fun a => match a with
  | ⟨0, _⟩ => Fin.ext (by show ((g.val * 64 + l.val) * 8192 + k.val) / 8192 = 64 * g.val + l.val; omega)
  | ⟨1, _⟩ => Fin.ext (by show ((g.val * 64 + l.val) * 8192 + k.val) % 8192 = k.val; omega)

theorem idx52 (g : Fin 104) (l : Fin 64) (k : Fin 8192) :
    idx_main_v52 (ix3 g l k) = ix2 ⟨64 * g.val + l.val, wcol_lt g l⟩ k := idx39 g l k

theorem idx49 (i : Fin 6656) (k : Fin 8192) :
    idx_main_v49 (ix2 i k) = ix3 ⟨i.val / 64, wgrp_lt i⟩ ⟨i.val % 64, wlane_lt i⟩ k :=
  funext fun a => match a with
  | ⟨0, _⟩ => Fin.ext (by show (i.val * 8192 + k.val) / 524288 = i.val / 64; omega)
  | ⟨1, _⟩ => Fin.ext (by show (i.val * 8192 + k.val) / 8192 % 64 = i.val % 64; omega)
  | ⟨2, _⟩ => Fin.ext (by show (i.val * 8192 + k.val) % 8192 = k.val; omega)

theorem idx62 (i : Fin 6656) (k : Fin 8192) :
    idx_main_v62 (ix2 i k) = ix3 ⟨i.val / 64, wgrp_lt i⟩ ⟨i.val % 64, wlane_lt i⟩ k := idx49 i k

theorem even_cols {φ : FTy} (y : FVec Ideal S104x16384 φ) (g : Fin 104) (k : Fin 8192) :
    Host.slice S104x8192 ![0, 0] ![1, 2] y slicesBy_S104x16384_S104x8192_0s1_0s2 (ix2 g k) = Lowp.table y g ⟨2 * k.val, lo_lt k⟩ := by
  rw [Host.slice_apply]
  exact congrArg y (funext fun a => match a with
    | ⟨0, _⟩ => Fin.ext (by show 0 + 1 * g.val = g.val; omega)
    | ⟨1, _⟩ => Fin.ext (by show 0 + 2 * k.val = 2 * k.val; omega))

theorem odd_cols {φ : FTy} (y : FVec Ideal S104x16384 φ) (g : Fin 104) (k : Fin 8192) :
    Host.slice S104x8192 ![0, 1] ![1, 2] y slicesBy_S104x16384_S104x8192_0s1_1s2 (ix2 g k) = Lowp.table y g ⟨2 * k.val + 1, hi_lt k⟩ := by
  rw [Host.slice_apply]
  exact congrArg y (funext fun a => match a with
    | ⟨0, _⟩ => Fin.ext (by show 0 + 1 * g.val = g.val; omega)
    | ⟨1, _⟩ => Fin.ext (by show 1 + 2 * k.val = 2 * k.val + 1; omega))

/-! ### Even columns -/

theorem v34_at (i : Fin 6656) (k : Fin 8192) : (val_main_v34 (F := Ideal) w (ix2 i k)).toInt = (Lowp.nibble 0 (Lowp.bytes w i k) : ℤ) := by
  rw [val_main_v34_apply, val_main_v32_apply, val_main_v33_apply]
  exact Lowp.nibble_low _

theorem v41_at (g : Fin 104) (l : Fin 64) (k : Fin 8192) :
    val_main_v41 (F := Ideal) w (ix3 g l k)
      = (((Lowp.nibble 0 (Lowp.bytes w ⟨64 * g.val + l.val, wcol_lt g l⟩ k) : ℕ) : ℝ) : EReal) := by
  rw [val_main_v41_apply, val_main_v40_apply, val_main_v39_apply, idx39]
  show (((val_main_v34 (F := Ideal) w _).toInt : ℝ) : EReal) = _
  rw [v34_at, Int.cast_natCast]

theorem v43_at (g : Fin 104) (l : Fin 64) (k : Fin 8192) :
    val_main_v43 (F := Ideal) z (ix3 g l k) = Lowp.table z g ⟨2 * k.val, lo_lt k⟩ := by
  rw [val_main_v43_apply, val_main_v42_apply, ← even_cols]
  exact congrArg (val_main_v37 (F := Ideal) z) (eq_ix2 _)

theorem v47_at (g : Fin 104) (l : Fin 64) (k : Fin 8192) :
    val_main_v47 (F := Ideal) sc (ix3 g l k) = Lowp.table sc g ⟨2 * k.val, lo_lt k⟩ := by
  rw [val_main_v47_apply, val_main_v46_apply, val_main_v45_apply, ← even_cols]
  exact congrArg (val_main_v38 (F := Ideal) sc) (eq_ix2 _)

theorem v48_at (g : Fin 104) (l : Fin 64) (k : Fin 8192) :
    val_main_v48 (F := Ideal) w sc z (ix3 g l k)
      = ((((Lowp.nibble 0 (Lowp.bytes w ⟨64 * g.val + l.val, wcol_lt g l⟩ k) : ℕ) : ℝ) : EReal) - Lowp.table z g ⟨2 * k.val, lo_lt k⟩)
        * Lowp.table sc g ⟨2 * k.val, lo_lt k⟩ := by
  rw [val_main_v48_apply, val_main_v44_apply, v41_at, v43_at, v47_at]
  rfl

/-- The weights of even columns. -/
theorem v49_at (i : Fin 6656) (k : Fin 8192) :
    val_main_v49 (F := Ideal) w sc z (ix2 i k)
      = Lowp.weight (Lowp.bytes w) (Lowp.table z) (Lowp.table sc) i ⟨2 * k.val, lo_lt k⟩ := by
  have h2 : (⟨2 * k.val / 2, by omega⟩ : Fin 8192) = k := Fin.ext (Nat.mul_div_cancel_left _ (by norm_num))
  rw [val_main_v49_apply, idx49, v48_at, split_row]
  unfold Lowp.weight
  dsimp only
  rw [h2, Nat.mul_mod_right]

/-! ### Odd columns -/

theorem v36_at (i : Fin 6656) (k : Fin 8192) : (val_main_v36 (F := Ideal) w (ix2 i k)).toInt = (Lowp.nibble 1 (Lowp.bytes w i k) : ℤ) := by
  rw [val_main_v36_apply, val_main_v32_apply, val_main_v35_apply]
  exact Lowp.nibble_high _

theorem v54_at (g : Fin 104) (l : Fin 64) (k : Fin 8192) :
    val_main_v54 (F := Ideal) w (ix3 g l k)
      = (((Lowp.nibble 1 (Lowp.bytes w ⟨64 * g.val + l.val, wcol_lt g l⟩ k) : ℕ) : ℝ) : EReal) := by
  rw [val_main_v54_apply, val_main_v53_apply, val_main_v52_apply, idx52]
  show (((val_main_v36 (F := Ideal) w _).toInt : ℝ) : EReal) = _
  rw [v36_at, Int.cast_natCast]

theorem v56_at (g : Fin 104) (l : Fin 64) (k : Fin 8192) :
    val_main_v56 (F := Ideal) z (ix3 g l k) = Lowp.table z g ⟨2 * k.val + 1, hi_lt k⟩ := by
  rw [val_main_v56_apply, val_main_v55_apply, ← odd_cols]
  exact congrArg (val_main_v50 (F := Ideal) z) (eq_ix2 _)

theorem v60_at (g : Fin 104) (l : Fin 64) (k : Fin 8192) :
    val_main_v60 (F := Ideal) sc (ix3 g l k) = Lowp.table sc g ⟨2 * k.val + 1, hi_lt k⟩ := by
  rw [val_main_v60_apply, val_main_v59_apply, val_main_v58_apply, ← odd_cols]
  exact congrArg (val_main_v51 (F := Ideal) sc) (eq_ix2 _)

theorem v61_at (g : Fin 104) (l : Fin 64) (k : Fin 8192) :
    val_main_v61 (F := Ideal) w sc z (ix3 g l k)
      = ((((Lowp.nibble 1 (Lowp.bytes w ⟨64 * g.val + l.val, wcol_lt g l⟩ k) : ℕ) : ℝ) : EReal) - Lowp.table z g ⟨2 * k.val + 1, hi_lt k⟩)
        * Lowp.table sc g ⟨2 * k.val + 1, hi_lt k⟩ := by
  rw [val_main_v61_apply, val_main_v57_apply, v54_at, v56_at, v60_at]
  rfl

/-- The weights of odd columns. -/
theorem v62_at (i : Fin 6656) (k : Fin 8192) :
    val_main_v62 (F := Ideal) w sc z (ix2 i k)
      = Lowp.weight (Lowp.bytes w) (Lowp.table z) (Lowp.table sc) i ⟨2 * k.val + 1, hi_lt k⟩ := by
  have h2 : (⟨(2 * k.val + 1) / 2, by omega⟩ : Fin 8192) = k := Fin.ext (by show (2 * k.val + 1) / 2 = k.val; omega)
  rw [val_main_v62_apply, idx62, v61_at, split_row]
  unfold Lowp.weight
  dsimp only
  rw [h2, Nat.mul_add_mod]

end Cert.ReferenceIdeal.Final
-- ==== Proof.ReferenceValue.lean ====
/- The reference's output: the products over even and odd columns, interleaved, plus the low-rank update. -/
module

public import proofs.«01_k».proof.Proof.RefQuant
public import proofs.«01_k».proof.Proof.RefWeights

@[expose] public section

set_option maxRecDepth 16384

noncomputable section

namespace Cert.ReferenceIdeal.Final

open Idealize.ShloMosaic Idealize.ShloMosaic.TcCoe Idealize.SL.Sem
open Cert.ReferenceIdeal Cert.ReferenceIdeal.Gen Cert.ReferenceIdeal.Read

variable (x : FVec Ideal S2x8192x6656 .bf16) (w : IVec S6656x8192 8) (sc : FVec Ideal S104x16384 .f32)
  (z : FVec Ideal S104x16384 .bf16) (l1 : FVec Ideal S6656x64 .bf16) (l2 : FVec Ideal S64x16384 .bf16)

/-- The product of the dequantised row and a column of weights. -/
def dot (b : Fin 2) (s : Fin 8192) (j : Fin 16384) : EReal :=
  ∑ i, Lowp.deq (Lowp.row x b s) i * Lowp.weight (Lowp.bytes w) (Lowp.table z) (Lowp.table sc) i j

/-! ### The two halves of the columns -/

theorem v63_at (b : Fin 2) (s : Fin 8192) (k : Fin 8192) :
    val_main_v63 (F := Ideal) x w sc z (ix3 b s k) = dot x w sc z b s ⟨2 * k.val, lo_lt k⟩ := by
  rw [val_main_v63_apply]
  refine Finset.sum_congr rfl fun i _ => ?_
  rw [show lidx_main_v63 (ix3 b s k) i = ix3 b s i from eq_ix3 _, show ridx_main_v63 (ix3 b s k) i = ix2 i k from eq_ix2 _, v31_at, v49_at]

theorem v64_at (b : Fin 2) (s : Fin 8192) (k : Fin 8192) :
    val_main_v64 (F := Ideal) x w sc z (ix3 b s k) = dot x w sc z b s ⟨2 * k.val + 1, hi_lt k⟩ := by
  rw [val_main_v64_apply]
  refine Finset.sum_congr rfl fun i _ => ?_
  rw [show lidx_main_v64 (ix3 b s k) i = ix3 b s i from eq_ix3 _, show ridx_main_v64 (ix3 b s k) i = ix2 i k from eq_ix2 _, v31_at, v62_at]

/-! ### Interleaving them -/

theorem half_lt (j : Fin 16384) : j.val / 2 < 8192 := by omega
theorem par_lt (j : Fin 16384) : j.val % 2 < 2 := by omega

theorem idx68 (b : Fin 2) (s : Fin 8192) (j : Fin 16384) :
    idx_main_v68 (ix3 b s j) = ix4 b s ⟨j.val / 2, half_lt j⟩ ⟨j.val % 2, par_lt j⟩ :=
  funext fun a => match a with
  | ⟨0, _⟩ => Fin.ext (by show ((b.val * 8192 + s.val) * 16384 + j.val) / 134217728 = b.val; omega)
  | ⟨1, _⟩ => Fin.ext (by show ((b.val * 8192 + s.val) * 16384 + j.val) / 16384 % 8192 = s.val; omega)
  | ⟨2, _⟩ => Fin.ext (by show ((b.val * 8192 + s.val) * 16384 + j.val) / 2 % 8192 = j.val / 2; omega)
  | ⟨3, _⟩ => Fin.ext (by show ((b.val * 8192 + s.val) * 16384 + j.val) % 2 = j.val % 2; omega)

theorem v67_even (b : Fin 2) (s : Fin 8192) (k : Fin 8192) :
    val_main_v67 (F := Ideal) x w sc z (ix4 b s k (0 : Fin 2)) = val_main_v65 (F := Ideal) x w sc z (ix4 b s k (0 : Fin 1)) := by
  unfold val_main_v67
  generalize val_main_v65 (F := Ideal) x w sc z = y
  generalize val_main_v66 (F := Ideal) x w sc z = y'
  exact concatenate_pair_apply_left 3 y y' _ (ix4 b s k (0 : Fin 2)) rfl (ix4 b s k (0 : Fin 1))
    (fun a => match a with | ⟨0, _⟩ => rfl | ⟨1, _⟩ => rfl | ⟨2, _⟩ => rfl | ⟨3, _⟩ => rfl)

theorem v67_odd (b : Fin 2) (s : Fin 8192) (k : Fin 8192) :
    val_main_v67 (F := Ideal) x w sc z (ix4 b s k (1 : Fin 2)) = val_main_v66 (F := Ideal) x w sc z (ix4 b s k (0 : Fin 1)) := by
  unfold val_main_v67
  generalize val_main_v65 (F := Ideal) x w sc z = y
  generalize val_main_v66 (F := Ideal) x w sc z = y'
  exact concatenate_pair_apply_right 3 y y' _ (ix4 b s k (1 : Fin 2)) rfl rfl (ix4 b s k (0 : Fin 1))
    (fun a ha => match a, ha with
      | ⟨0, _⟩, _ => rfl
      | ⟨1, _⟩, _ => rfl
      | ⟨2, _⟩, _ => rfl
      | ⟨3, _⟩, ha => absurd rfl ha) rfl

theorem v65_at (b : Fin 2) (s : Fin 8192) (k : Fin 8192) :
    val_main_v65 (F := Ideal) x w sc z (ix4 b s k (0 : Fin 1)) = dot x w sc z b s ⟨2 * k.val, lo_lt k⟩ := by
  rw [val_main_v65_apply, ← v63_at]
  exact congrArg (val_main_v63 (F := Ideal) x w sc z) (eq_ix3 _)

theorem v66_at (b : Fin 2) (s : Fin 8192) (k : Fin 8192) :
    val_main_v66 (F := Ideal) x w sc z (ix4 b s k (0 : Fin 1)) = dot x w sc z b s ⟨2 * k.val + 1, hi_lt k⟩ := by
  rw [val_main_v66_apply, ← v64_at]
  exact congrArg (val_main_v64 (F := Ideal) x w sc z) (eq_ix3 _)

/-- Every column, whichever half it came from. -/
theorem v68_at (b : Fin 2) (s : Fin 8192) (j : Fin 16384) :
    val_main_v68 (F := Ideal) x w sc z (ix3 b s j) = dot x w sc z b s j := by
  rw [val_main_v68_apply, idx68]
  rcases Nat.mod_two_eq_zero_or_one j.val with h | h
  · rw [show (⟨j.val % 2, par_lt j⟩ : Fin 2) = 0 from Fin.ext h, v67_even, v65_at]
    exact congrArg (dot x w sc z b s) (Fin.ext (by show 2 * (j.val / 2) = j.val; omega))
  · rw [show (⟨j.val % 2, par_lt j⟩ : Fin 2) = 1 from Fin.ext h, v67_odd, v66_at]
    exact congrArg (dot x w sc z b s) (Fin.ext (by show 2 * (j.val / 2) + 1 = j.val; omega))

/-! ### The low-rank update -/

theorem v70_at (b : Fin 2) (s : Fin 8192) (r : Fin 64) :
    val_main_v70 (F := Ideal) x l1 (ix3 b s r) = Lowp.lora (Lowp.row x b s) (Lowp.down l1) r := by
  rw [val_main_v70_apply]
  show val_main_v69 (F := Ideal) x l1 (ix3 b s r) = _
  rw [val_main_v69_apply]
  refine Finset.sum_congr rfl fun i _ => ?_
  rw [show lidx_main_v69 (ix3 b s r) i = ix3 b s i from eq_ix3 _, show ridx_main_v69 (ix3 b s r) i = ix2 i r from eq_ix2 _]
  rfl

theorem v71_at (b : Fin 2) (s : Fin 8192) (j : Fin 16384) :
    val_main_v71 (F := Ideal) x l1 l2 (ix3 b s j) = ∑ r, Lowp.lora (Lowp.row x b s) (Lowp.down l1) r * Lowp.up l2 r j := by
  rw [val_main_v71_apply]
  refine Finset.sum_congr rfl fun r _ => ?_
  rw [show lidx_main_v71 (ix3 b s j) r = ix3 b s r from eq_ix3 _, show ridx_main_v71 (ix3 b s j) r = ix2 r j from eq_ix2 _, v70_at]
  rfl

theorem v73_at (b : Fin 2) (s : Fin 8192) (j : Fin 16384) :
    val_main_v73 (F := Ideal) x w sc z l1 l2 (ix3 b s j)
      = Lowp.out (Lowp.row x b s) (Lowp.bytes w) (Lowp.table z) (Lowp.table sc) (Lowp.down l1) (Lowp.up l2) j := by
  rw [val_main_v73_apply, val_main_v72_apply, v68_at, v71_at]
  rfl

/-- The reference's output. -/
theorem out_eq : val_main_v73 (F := Ideal) x w sc z l1 l2 = Lowp.outArr x w sc z l1 l2 := by
  funext i
  rw [eq_ix3 i]
  exact v73_at x w sc z l1 l2 _ _ _

end Cert.ReferenceIdeal.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem

/-- The reference leaves its arguments alone, and has no semaphore. -/
theorem frameRef : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The idealized kernel and the idealized reference end with the same three results. -/
theorem algebraic : Cert.algebraic_KernelIdeal_ReferenceIdeal := by
  intro m g m' g' _ hargs
  refine ⟨fun c => Lowp.outArr (KernelIdeal.Final.aX m c) (KernelIdeal.Final.aW m c) (KernelIdeal.Final.aS m c)
      (KernelIdeal.Final.aZ m c) (KernelIdeal.Final.aD m c) (KernelIdeal.Final.aU m c),
    fun c => Lowp.codeArr (KernelIdeal.Final.aX m c), fun c => Lowp.scaleArr (KernelIdeal.Final.aX m c), ?_, ?_⟩
  · refine (θ_run Cert.KernelIdeal.defs _ _).mono (fun r h c => ?_) (KernelIdeal.Final.run m g)
    obtain ⟨h5, h6, h7, ha⟩ := h c
    exact ⟨h5.trans (KernelIdeal.Final.out_eq m g c), h6.trans (KernelIdeal.Final.code_eq m g c),
      h7.trans (KernelIdeal.Final.scales_eq m g c), ha⟩
  · refine (θ_run Cert.ReferenceIdeal.defs _ _).mono (fun r h c => ?_) (Cert.ReferenceIdeal.Value.run (F := Ideal) m' g')
    obtain ⟨h73, h23, h8, ha⟩ := h c
    obtain ⟨e0, e1, e2, e3, e4, e5⟩ := hargs c
    refine ⟨h73.trans ((ReferenceIdeal.Read.val_main_v73_eq m' c).trans ?_),
      h23.trans ((ReferenceIdeal.Read.val_main_v23_eq _).trans ?_),
      h8.trans ((ReferenceIdeal.Read.val_main_v8_eq _).trans ?_), ha⟩
    · rw [e0, e1, e2, e3, e4, e5]
      exact ReferenceIdeal.Final.out_eq _ _ _ _ _ _
    · rw [e0]
      exact ReferenceIdeal.Final.codes_eq _
    · rw [e0]
      exact ReferenceIdeal.Final.scales_eq _

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frameRef, trivial, algebraic⟩

end Cert.Proof

end
